-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S192x512 : Shape := ⟨2, ![192, 512]⟩
abbrev S12 : Shape := ⟨1, ![12]⟩
abbrev S8 : Shape := ⟨1, ![8]⟩
abbrev S_ : Shape := ⟨0, ![]⟩
abbrev S1 : Shape := ⟨1, ![1]⟩
abbrev S16x512 : Shape := ⟨2, ![16, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S192x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v45 : BitVec 32 := Scalar.muli v2 c8_i32_25
  let v46 : BitVec 32 := Scalar.addi c0_i32_26 v45
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_27 : BitVec 32 := 4#32
  let v47 : BitVec 32 := Scalar.muli v9 c4_i32_27
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v49 : BitVec 32 := Scalar.muli v8 c1_i32_28
  let v50 : BitVec 32 := Scalar.addi v48 v49
  v50.toNat
def k0_dev2 (d0 : Dev nD) : Nat :=
  let c0_i32_31 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_30 : BitVec 32 := 8#32
  let v51 : BitVec 32 := Scalar.muli v26 c8_i32_30
  let v52 : BitVec 32 := Scalar.addi c0_i32_31 v51
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v53 : BitVec 32 := Scalar.muli v5 c4_i32_32
  let v54 : BitVec 32 := Scalar.addi v52 v53
  let c7_i32_12 : BitVec 32 := 7#32
  let v27 : BitVec 32 := Scalar.subi c7_i32_12 v24
  let v28 : BitVec 32 := Scalar.select v25 v24 v27
  let c1_i32_33 : BitVec 32 := 1#32
  let v55 : BitVec 32 := Scalar.muli v28 c1_i32_33
  let v56 : BitVec 32 := Scalar.addi v54 v55
  v56.toNat
def k0_dev3 (d0 : Dev nD) : Nat :=
  let c0_i32_36 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_35 : BitVec 32 := 8#32
  let v57 : BitVec 32 := Scalar.muli v41 c8_i32_35
  let v58 : BitVec 32 := Scalar.addi c0_i32_36 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v59 : BitVec 32 := Scalar.muli v5 c4_i32_37
  let v60 : BitVec 32 := Scalar.addi v58 v59
  let c7_i32_23 : BitVec 32 := 7#32
  let v42 : BitVec 32 := Scalar.subi c7_i32_23 v39
  let v43 : BitVec 32 := Scalar.select v40 v39 v42
  let c1_i32_38 : BitVec 32 := 1#32
  let v61 : BitVec 32 := Scalar.muli v43 c1_i32_38
  let v62 : BitVec 32 := Scalar.addi v60 v61
  v62.toNat
def k0_off1 (d0 : Dev nD) (c0_i32_40 : BitVec 32) (c0_i32_47 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let v63 : BitVec 32 := Scalar.addi v13 c0_i32_40
  let c8_i32_41 : BitVec 32 := 8#32
  let c0_i32_42 : BitVec 32 := 0#32
  let v64 : BitVec 1 := Scalar.cmpi .eq c8_i32_41 c0_i32_42
  let c1_i32_43 : BitVec 32 := 1#32
  let v65 : BitVec 32 := Scalar.select v64 c1_i32_43 c8_i32_41
  let v66 : BitVec 32 := Scalar.remsi v63 v65
  let c0_i32_45 : BitVec 32 := 0#32
  let v68 : BitVec 1 := Scalar.cmpi .slt v66 c0_i32_45
  let c0_i32_46 : BitVec 32 := 0#32
  let v69 : BitVec 1 := Scalar.cmpi .slt v65 c0_i32_46
  let v70 : BitVec 1 := Scalar.xori v68 v69
  let c0_i32_44 : BitVec 32 := 0#32
  let v67 : BitVec 1 := Scalar.cmpi .ne v66 c0_i32_44
  let v71 : BitVec 1 := Scalar.andi v70 v67
  let v72 : BitVec 32 := Scalar.addi v66 v65
  let v73 : BitVec 32 := Scalar.select v71 v72 v66
  let c64_i32 : BitVec 32 := 64#32
  let v74 : BitVec 32 := Scalar.muli v73 c64_i32
  let v75 : BitVec 32 := Scalar.addi v74 c0_i32_47
  let c0_i32_56 : BitVec 32 := 0#32
  ![v75.toNat, 0]
def k0_dev4 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v76 : BitVec 32 := Scalar.muli v2 c8_i32_50
  let v77 : BitVec 32 := Scalar.addi c0_i32_51 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v78 : BitVec 32 := Scalar.muli v9 c4_i32_52
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v80 : BitVec 32 := Scalar.muli v8 c1_i32_53
  let v81 : BitVec 32 := Scalar.addi v79 v80
  v81.toNat
def k0_dev5 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v89 : BitVec 32 := Scalar.muli v2 c8_i32_59
  let v90 : BitVec 32 := Scalar.addi c0_i32_60 v89
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v91 : BitVec 32 := Scalar.muli v9 c4_i32_61
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v93 : BitVec 32 := Scalar.muli v8 c1_i32_62
  let v94 : BitVec 32 := Scalar.addi v92 v93
  v94.toNat
def k0_dev6 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v102 : BitVec 32 := Scalar.muli v2 c8_i32_68
  let v103 : BitVec 32 := Scalar.addi c0_i32_69 v102
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_70 : BitVec 32 := 4#32
  let v104 : BitVec 32 := Scalar.muli v9 c4_i32_70
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v106 : BitVec 32 := Scalar.muli v8 c1_i32_71
  let v107 : BitVec 32 := Scalar.addi v105 v106
  v107.toNat
def k0_dev7 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_77 : BitVec 32 := 8#32
  let v115 : BitVec 32 := Scalar.muli v2 c8_i32_77
  let v116 : BitVec 32 := Scalar.addi c0_i32_78 v115
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_79 : BitVec 32 := 4#32
  let v117 : BitVec 32 := Scalar.muli v9 c4_i32_79
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v119 : BitVec 32 := Scalar.muli v8 c1_i32_80
  let v120 : BitVec 32 := Scalar.addi v118 v119
  v120.toNat
def k0_dev8 (d0 : Dev nD) : Nat :=
  let c0_i32_96 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_95 : BitVec 32 := 8#32
  let v140 : BitVec 32 := Scalar.muli v2 c8_i32_95
  let v141 : BitVec 32 := Scalar.addi c0_i32_96 v140
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_97 : BitVec 32 := 4#32
  let v142 : BitVec 32 := Scalar.muli v9 c4_i32_97
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v144 : BitVec 32 := Scalar.muli v8 c1_i32_98
  let v145 : BitVec 32 := Scalar.addi v143 v144
  v145.toNat
def k0_dev9 (d0 : Dev nD) : Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_104 : BitVec 32 := 8#32
  let v153 : BitVec 32 := Scalar.muli v2 c8_i32_104
  let v154 : BitVec 32 := Scalar.addi c0_i32_105 v153
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_106 : BitVec 32 := 4#32
  let v155 : BitVec 32 := Scalar.muli v9 c4_i32_106
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v157 : BitVec 32 := Scalar.muli v8 c1_i32_107
  let v158 : BitVec 32 := Scalar.addi v156 v157
  v158.toNat
def k0_dev10 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v166 : BitVec 32 := Scalar.muli v2 c8_i32_112
  let v167 : BitVec 32 := Scalar.addi c0_i32_113 v166
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_114 : BitVec 32 := 4#32
  let v168 : BitVec 32 := Scalar.muli v9 c4_i32_114
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v170 : BitVec 32 := Scalar.muli v8 c1_i32_115
  let v171 : BitVec 32 := Scalar.addi v169 v170
  v171.toNat
def k0_dev11 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v179 : BitVec 32 := Scalar.muli v2 c8_i32_121
  let v180 : BitVec 32 := Scalar.addi c0_i32_122 v179
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_123 : BitVec 32 := 4#32
  let v181 : BitVec 32 := Scalar.muli v9 c4_i32_123
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v183 : BitVec 32 := Scalar.muli v8 c1_i32_124
  let v184 : BitVec 32 := Scalar.addi v182 v183
  v184.toNat
def k0_dev12 (d0 : Dev nD) : Nat :=
  let c0_i32_139 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_138 : BitVec 32 := 8#32
  let v204 : BitVec 32 := Scalar.muli v2 c8_i32_138
  let v205 : BitVec 32 := Scalar.addi c0_i32_139 v204
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_140 : BitVec 32 := 4#32
  let v206 : BitVec 32 := Scalar.muli v9 c4_i32_140
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v208 : BitVec 32 := Scalar.muli v8 c1_i32_141
  let v209 : BitVec 32 := Scalar.addi v207 v208
  v209.toNat
def k0_dev13 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v217 : BitVec 32 := Scalar.muli v2 c8_i32_146
  let v218 : BitVec 32 := Scalar.addi c0_i32_147 v217
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_148 : BitVec 32 := 4#32
  let v219 : BitVec 32 := Scalar.muli v9 c4_i32_148
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v221 : BitVec 32 := Scalar.muli v8 c1_i32_149
  let v222 : BitVec 32 := Scalar.addi v220 v221
  v222.toNat
def k0_dev14 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v230 : BitVec 32 := Scalar.muli v2 c8_i32_154
  let v231 : BitVec 32 := Scalar.addi c0_i32_155 v230
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_156 : BitVec 32 := 4#32
  let v232 : BitVec 32 := Scalar.muli v9 c4_i32_156
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v234 : BitVec 32 := Scalar.muli v8 c1_i32_157
  let v235 : BitVec 32 := Scalar.addi v233 v234
  v235.toNat
def k0_dev15 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v243 : BitVec 32 := Scalar.muli v2 c8_i32_162
  let v244 : BitVec 32 := Scalar.addi c0_i32_163 v243
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_164 : BitVec 32 := 4#32
  let v245 : BitVec 32 := Scalar.muli v9 c4_i32_164
  let v246 : BitVec 32 := Scalar.addi v244 v245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v247 : BitVec 32 := Scalar.muli v8 c1_i32_165
  let v248 : BitVec 32 := Scalar.addi v246 v247
  v248.toNat
def k0_off2 (d0 : Dev nD) (c0_i32_168 : BitVec 32) (c0_i32_185 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let v255 : BitVec 32 := Scalar.addi v13 c0_i32_168
  let c8_i32_169 : BitVec 32 := 8#32
  let c0_i32_170 : BitVec 32 := 0#32
  let v256 : BitVec 1 := Scalar.cmpi .eq c8_i32_169 c0_i32_170
  let c1_i32_171 : BitVec 32 := 1#32
  let v257 : BitVec 32 := Scalar.select v256 c1_i32_171 c8_i32_169
  let v258 : BitVec 32 := Scalar.remsi v255 v257
  let c0_i32_173 : BitVec 32 := 0#32
  let v260 : BitVec 1 := Scalar.cmpi .slt v258 c0_i32_173
  let c0_i32_174 : BitVec 32 := 0#32
  let v261 : BitVec 1 := Scalar.cmpi .slt v257 c0_i32_174
  let v262 : BitVec 1 := Scalar.xori v260 v261
  let c0_i32_172 : BitVec 32 := 0#32
  let v259 : BitVec 1 := Scalar.cmpi .ne v258 c0_i32_172
  let v263 : BitVec 1 := Scalar.andi v262 v259
  let v264 : BitVec 32 := Scalar.addi v258 v257
  let v265 : BitVec 32 := Scalar.select v263 v264 v258
  let c64_i32_175 : BitVec 32 := 64#32
  let v266 : BitVec 32 := Scalar.muli v265 c64_i32_175
  let v277 : BitVec 32 := Scalar.addi v266 c0_i32_185
  let v278 : Index := Scalar.indexCast v277
  let c0 : Index := 0#32
  ![v278.toNat, 0]
def k0_off2_at (r : Fin 12) : BitVec 32 × BitVec 32 :=
  if r.val < 6 then
    if r.val < 3 then
      if r.val < 1 then
        (0#32, 0#32)
      else
        if r.val < 2 then
          (0#32, 16#32)
        else
          (0#32, 32#32)
    else
      if r.val < 4 then
        (0#32, 48#32)
      else
        if r.val < 5 then
          (2#32, 0#32)
        else
          (2#32, 16#32)
  else
    if r.val < 9 then
      if r.val < 7 then
        (2#32, 32#32)
      else
        if r.val < 8 then
          (2#32, 48#32)
        else
          (5#32, 0#32)
    else
      if r.val < 10 then
        (5#32, 16#32)
      else
        if r.val < 11 then
          (5#32, 32#32)
        else
          (5#32, 48#32)
def k0_dev16 (d0 : Dev nD) : Nat :=
  let c0_i32_192 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_191 : BitVec 32 := 8#32
  let v285 : BitVec 32 := Scalar.muli v26 c8_i32_191
  let v286 : BitVec 32 := Scalar.addi c0_i32_192 v285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v287 : BitVec 32 := Scalar.muli v5 c4_i32_193
  let v288 : BitVec 32 := Scalar.addi v286 v287
  let c7_i32_12 : BitVec 32 := 7#32
  let v27 : BitVec 32 := Scalar.subi c7_i32_12 v24
  let v28 : BitVec 32 := Scalar.select v25 v24 v27
  let c1_i32_194 : BitVec 32 := 1#32
  let v289 : BitVec 32 := Scalar.muli v28 c1_i32_194
  let v290 : BitVec 32 := Scalar.addi v288 v289
  v290.toNat
def k0_dev17 (d0 : Dev nD) : Nat :=
  let c0_i32_213 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_212 : BitVec 32 := 8#32
  let v315 : BitVec 32 := Scalar.muli v26 c8_i32_212
  let v316 : BitVec 32 := Scalar.addi c0_i32_213 v315
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_214 : BitVec 32 := 4#32
  let v317 : BitVec 32 := Scalar.muli v5 c4_i32_214
  let v318 : BitVec 32 := Scalar.addi v316 v317
  let c7_i32_12 : BitVec 32 := 7#32
  let v27 : BitVec 32 := Scalar.subi c7_i32_12 v24
  let v28 : BitVec 32 := Scalar.select v25 v24 v27
  let c1_i32_215 : BitVec 32 := 1#32
  let v319 : BitVec 32 := Scalar.muli v28 c1_i32_215
  let v320 : BitVec 32 := Scalar.addi v318 v319
  v320.toNat
def k0_dev18 (d0 : Dev nD) : Nat :=
  let c0_i32_234 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_233 : BitVec 32 := 8#32
  let v345 : BitVec 32 := Scalar.muli v26 c8_i32_233
  let v346 : BitVec 32 := Scalar.addi c0_i32_234 v345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_235 : BitVec 32 := 4#32
  let v347 : BitVec 32 := Scalar.muli v5 c4_i32_235
  let v348 : BitVec 32 := Scalar.addi v346 v347
  let c7_i32_12 : BitVec 32 := 7#32
  let v27 : BitVec 32 := Scalar.subi c7_i32_12 v24
  let v28 : BitVec 32 := Scalar.select v25 v24 v27
  let c1_i32_236 : BitVec 32 := 1#32
  let v349 : BitVec 32 := Scalar.muli v28 c1_i32_236
  let v350 : BitVec 32 := Scalar.addi v348 v349
  v350.toNat
def k0_dev19 (d0 : Dev nD) : Nat :=
  let c0_i32_255 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_254 : BitVec 32 := 8#32
  let v375 : BitVec 32 := Scalar.muli v26 c8_i32_254
  let v376 : BitVec 32 := Scalar.addi c0_i32_255 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_256 : BitVec 32 := 4#32
  let v377 : BitVec 32 := Scalar.muli v5 c4_i32_256
  let v378 : BitVec 32 := Scalar.addi v376 v377
  let c7_i32_12 : BitVec 32 := 7#32
  let v27 : BitVec 32 := Scalar.subi c7_i32_12 v24
  let v28 : BitVec 32 := Scalar.select v25 v24 v27
  let c1_i32_257 : BitVec 32 := 1#32
  let v379 : BitVec 32 := Scalar.muli v28 c1_i32_257
  let v380 : BitVec 32 := Scalar.addi v378 v379
  v380.toNat
def k0_dev20 (d0 : Dev nD) : Nat :=
  let c0_i32_284 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_283 : BitVec 32 := 8#32
  let v417 : BitVec 32 := Scalar.muli v26 c8_i32_283
  let v418 : BitVec 32 := Scalar.addi c0_i32_284 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v419 : BitVec 32 := Scalar.muli v5 c4_i32_285
  let v420 : BitVec 32 := Scalar.addi v418 v419
  let c7_i32_12 : BitVec 32 := 7#32
  let v27 : BitVec 32 := Scalar.subi c7_i32_12 v24
  let v28 : BitVec 32 := Scalar.select v25 v24 v27
  let c1_i32_286 : BitVec 32 := 1#32
  let v421 : BitVec 32 := Scalar.muli v28 c1_i32_286
  let v422 : BitVec 32 := Scalar.addi v420 v421
  v422.toNat
def k0_dev21 (d0 : Dev nD) : Nat :=
  let c0_i32_292 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_291 : BitVec 32 := 8#32
  let v429 : BitVec 32 := Scalar.muli v41 c8_i32_291
  let v430 : BitVec 32 := Scalar.addi c0_i32_292 v429
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_293 : BitVec 32 := 4#32
  let v431 : BitVec 32 := Scalar.muli v5 c4_i32_293
  let v432 : BitVec 32 := Scalar.addi v430 v431
  let c7_i32_23 : BitVec 32 := 7#32
  let v42 : BitVec 32 := Scalar.subi c7_i32_23 v39
  let v43 : BitVec 32 := Scalar.select v40 v39 v42
  let c1_i32_294 : BitVec 32 := 1#32
  let v433 : BitVec 32 := Scalar.muli v43 c1_i32_294
  let v434 : BitVec 32 := Scalar.addi v432 v433
  v434.toNat
def k0_dev22 (d0 : Dev nD) : Nat :=
  let c0_i32_313 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_312 : BitVec 32 := 8#32
  let v459 : BitVec 32 := Scalar.muli v26 c8_i32_312
  let v460 : BitVec 32 := Scalar.addi c0_i32_313 v459
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v461 : BitVec 32 := Scalar.muli v5 c4_i32_314
  let v462 : BitVec 32 := Scalar.addi v460 v461
  let c7_i32_12 : BitVec 32 := 7#32
  let v27 : BitVec 32 := Scalar.subi c7_i32_12 v24
  let v28 : BitVec 32 := Scalar.select v25 v24 v27
  let c1_i32_315 : BitVec 32 := 1#32
  let v463 : BitVec 32 := Scalar.muli v28 c1_i32_315
  let v464 : BitVec 32 := Scalar.addi v462 v463
  v464.toNat
def k0_dev23 (d0 : Dev nD) : Nat :=
  let c0_i32_321 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_320 : BitVec 32 := 8#32
  let v471 : BitVec 32 := Scalar.muli v41 c8_i32_320
  let v472 : BitVec 32 := Scalar.addi c0_i32_321 v471
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_322 : BitVec 32 := 4#32
  let v473 : BitVec 32 := Scalar.muli v5 c4_i32_322
  let v474 : BitVec 32 := Scalar.addi v472 v473
  let c7_i32_23 : BitVec 32 := 7#32
  let v42 : BitVec 32 := Scalar.subi c7_i32_23 v39
  let v43 : BitVec 32 := Scalar.select v40 v39 v42
  let c1_i32_323 : BitVec 32 := 1#32
  let v475 : BitVec 32 := Scalar.muli v43 c1_i32_323
  let v476 : BitVec 32 := Scalar.addi v474 v475
  v476.toNat
def k0_dev24 (d0 : Dev nD) : Nat :=
  let c0_i32_342 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_341 : BitVec 32 := 8#32
  let v501 : BitVec 32 := Scalar.muli v26 c8_i32_341
  let v502 : BitVec 32 := Scalar.addi c0_i32_342 v501
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_343 : BitVec 32 := 4#32
  let v503 : BitVec 32 := Scalar.muli v5 c4_i32_343
  let v504 : BitVec 32 := Scalar.addi v502 v503
  let c7_i32_12 : BitVec 32 := 7#32
  let v27 : BitVec 32 := Scalar.subi c7_i32_12 v24
  let v28 : BitVec 32 := Scalar.select v25 v24 v27
  let c1_i32_344 : BitVec 32 := 1#32
  let v505 : BitVec 32 := Scalar.muli v28 c1_i32_344
  let v506 : BitVec 32 := Scalar.addi v504 v505
  v506.toNat
def k0_dev25 (d0 : Dev nD) : Nat :=
  let c0_i32_350 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_349 : BitVec 32 := 8#32
  let v513 : BitVec 32 := Scalar.muli v41 c8_i32_349
  let v514 : BitVec 32 := Scalar.addi c0_i32_350 v513
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v515 : BitVec 32 := Scalar.muli v5 c4_i32_351
  let v516 : BitVec 32 := Scalar.addi v514 v515
  let c7_i32_23 : BitVec 32 := 7#32
  let v42 : BitVec 32 := Scalar.subi c7_i32_23 v39
  let v43 : BitVec 32 := Scalar.select v40 v39 v42
  let c1_i32_352 : BitVec 32 := 1#32
  let v517 : BitVec 32 := Scalar.muli v43 c1_i32_352
  let v518 : BitVec 32 := Scalar.addi v516 v517
  v518.toNat
def k0_dev26 (d0 : Dev nD) : Nat :=
  let c0_i32_371 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_370 : BitVec 32 := 8#32
  let v543 : BitVec 32 := Scalar.muli v26 c8_i32_370
  let v544 : BitVec 32 := Scalar.addi c0_i32_371 v543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_372 : BitVec 32 := 4#32
  let v545 : BitVec 32 := Scalar.muli v5 c4_i32_372
  let v546 : BitVec 32 := Scalar.addi v544 v545
  let c7_i32_12 : BitVec 32 := 7#32
  let v27 : BitVec 32 := Scalar.subi c7_i32_12 v24
  let v28 : BitVec 32 := Scalar.select v25 v24 v27
  let c1_i32_373 : BitVec 32 := 1#32
  let v547 : BitVec 32 := Scalar.muli v28 c1_i32_373
  let v548 : BitVec 32 := Scalar.addi v546 v547
  v548.toNat
def k0_dev27 (d0 : Dev nD) : Nat :=
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_378 : BitVec 32 := 8#32
  let v555 : BitVec 32 := Scalar.muli v41 c8_i32_378
  let v556 : BitVec 32 := Scalar.addi c0_i32_379 v555
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v557 : BitVec 32 := Scalar.muli v5 c4_i32_380
  let v558 : BitVec 32 := Scalar.addi v556 v557
  let c7_i32_23 : BitVec 32 := 7#32
  let v42 : BitVec 32 := Scalar.subi c7_i32_23 v39
  let v43 : BitVec 32 := Scalar.select v40 v39 v42
  let c1_i32_381 : BitVec 32 := 1#32
  let v559 : BitVec 32 := Scalar.muli v43 c1_i32_381
  let v560 : BitVec 32 := Scalar.addi v558 v559
  v560.toNat
def k0_dev28 (d0 : Dev nD) : Nat :=
  let c0_i32_408 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_407 : BitVec 32 := 8#32
  let v597 : BitVec 32 := Scalar.muli v26 c8_i32_407
  let v598 : BitVec 32 := Scalar.addi c0_i32_408 v597
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_409 : BitVec 32 := 4#32
  let v599 : BitVec 32 := Scalar.muli v5 c4_i32_409
  let v600 : BitVec 32 := Scalar.addi v598 v599
  let c7_i32_12 : BitVec 32 := 7#32
  let v27 : BitVec 32 := Scalar.subi c7_i32_12 v24
  let v28 : BitVec 32 := Scalar.select v25 v24 v27
  let c1_i32_410 : BitVec 32 := 1#32
  let v601 : BitVec 32 := Scalar.muli v28 c1_i32_410
  let v602 : BitVec 32 := Scalar.addi v600 v601
  v602.toNat
def k0_dev29 (d0 : Dev nD) : Nat :=
  let c0_i32_416 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_415 : BitVec 32 := 8#32
  let v609 : BitVec 32 := Scalar.muli v41 c8_i32_415
  let v610 : BitVec 32 := Scalar.addi c0_i32_416 v609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_417 : BitVec 32 := 4#32
  let v611 : BitVec 32 := Scalar.muli v5 c4_i32_417
  let v612 : BitVec 32 := Scalar.addi v610 v611
  let c7_i32_23 : BitVec 32 := 7#32
  let v42 : BitVec 32 := Scalar.subi c7_i32_23 v39
  let v43 : BitVec 32 := Scalar.select v40 v39 v42
  let c1_i32_418 : BitVec 32 := 1#32
  let v613 : BitVec 32 := Scalar.muli v43 c1_i32_418
  let v614 : BitVec 32 := Scalar.addi v612 v613
  v614.toNat
def k0_dev30 (d0 : Dev nD) : Nat :=
  let c0_i32_437 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_436 : BitVec 32 := 8#32
  let v639 : BitVec 32 := Scalar.muli v26 c8_i32_436
  let v640 : BitVec 32 := Scalar.addi c0_i32_437 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_438 : BitVec 32 := 4#32
  let v641 : BitVec 32 := Scalar.muli v5 c4_i32_438
  let v642 : BitVec 32 := Scalar.addi v640 v641
  let c7_i32_12 : BitVec 32 := 7#32
  let v27 : BitVec 32 := Scalar.subi c7_i32_12 v24
  let v28 : BitVec 32 := Scalar.select v25 v24 v27
  let c1_i32_439 : BitVec 32 := 1#32
  let v643 : BitVec 32 := Scalar.muli v28 c1_i32_439
  let v644 : BitVec 32 := Scalar.addi v642 v643
  v644.toNat
def k0_dev31 (d0 : Dev nD) : Nat :=
  let c0_i32_445 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_444 : BitVec 32 := 8#32
  let v651 : BitVec 32 := Scalar.muli v41 c8_i32_444
  let v652 : BitVec 32 := Scalar.addi c0_i32_445 v651
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v653 : BitVec 32 := Scalar.muli v5 c4_i32_446
  let v654 : BitVec 32 := Scalar.addi v652 v653
  let c7_i32_23 : BitVec 32 := 7#32
  let v42 : BitVec 32 := Scalar.subi c7_i32_23 v39
  let v43 : BitVec 32 := Scalar.select v40 v39 v42
  let c1_i32_447 : BitVec 32 := 1#32
  let v655 : BitVec 32 := Scalar.muli v43 c1_i32_447
  let v656 : BitVec 32 := Scalar.addi v654 v655
  v656.toNat
def k0_dev32 (d0 : Dev nD) : Nat :=
  let c0_i32_466 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_465 : BitVec 32 := 8#32
  let v681 : BitVec 32 := Scalar.muli v26 c8_i32_465
  let v682 : BitVec 32 := Scalar.addi c0_i32_466 v681
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_467 : BitVec 32 := 4#32
  let v683 : BitVec 32 := Scalar.muli v5 c4_i32_467
  let v684 : BitVec 32 := Scalar.addi v682 v683
  let c7_i32_12 : BitVec 32 := 7#32
  let v27 : BitVec 32 := Scalar.subi c7_i32_12 v24
  let v28 : BitVec 32 := Scalar.select v25 v24 v27
  let c1_i32_468 : BitVec 32 := 1#32
  let v685 : BitVec 32 := Scalar.muli v28 c1_i32_468
  let v686 : BitVec 32 := Scalar.addi v684 v685
  v686.toNat
def k0_dev33 (d0 : Dev nD) : Nat :=
  let c0_i32_474 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_473 : BitVec 32 := 8#32
  let v693 : BitVec 32 := Scalar.muli v41 c8_i32_473
  let v694 : BitVec 32 := Scalar.addi c0_i32_474 v693
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_475 : BitVec 32 := 4#32
  let v695 : BitVec 32 := Scalar.muli v5 c4_i32_475
  let v696 : BitVec 32 := Scalar.addi v694 v695
  let c7_i32_23 : BitVec 32 := 7#32
  let v42 : BitVec 32 := Scalar.subi c7_i32_23 v39
  let v43 : BitVec 32 := Scalar.select v40 v39 v42
  let c1_i32_476 : BitVec 32 := 1#32
  let v697 : BitVec 32 := Scalar.muli v43 c1_i32_476
  let v698 : BitVec 32 := Scalar.addi v696 v697
  v698.toNat
def k0_dev34 (d0 : Dev nD) : Nat :=
  let c0_i32_495 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c1_i32_4 : BitVec 32 := 1#32
  let v14 : BitVec 32 := Scalar.addi v13 c1_i32_4
  let c8_i32_5 : BitVec 32 := 8#32
  let c0_i32 : BitVec 32 := 0#32
  let v15 : BitVec 1 := Scalar.cmpi .eq c8_i32_5 c0_i32
  let c1_i32_6 : BitVec 32 := 1#32
  let v16 : BitVec 32 := Scalar.select v15 c1_i32_6 c8_i32_5
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c3_i32 : BitVec 32 := 3#32
  let v25 : BitVec 1 := Scalar.cmpi .sle v24 c3_i32
  let c0_i32_10 : BitVec 32 := 0#32
  let c1_i32_11 : BitVec 32 := 1#32
  let v26 : BitVec 32 := Scalar.select v25 c0_i32_10 c1_i32_11
  let c8_i32_494 : BitVec 32 := 8#32
  let v723 : BitVec 32 := Scalar.muli v26 c8_i32_494
  let v724 : BitVec 32 := Scalar.addi c0_i32_495 v723
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_496 : BitVec 32 := 4#32
  let v725 : BitVec 32 := Scalar.muli v5 c4_i32_496
  let v726 : BitVec 32 := Scalar.addi v724 v725
  let c7_i32_12 : BitVec 32 := 7#32
  let v27 : BitVec 32 := Scalar.subi c7_i32_12 v24
  let v28 : BitVec 32 := Scalar.select v25 v24 v27
  let c1_i32_497 : BitVec 32 := 1#32
  let v727 : BitVec 32 := Scalar.muli v28 c1_i32_497
  let v728 : BitVec 32 := Scalar.addi v726 v727
  v728.toNat
def k0_dev35 (d0 : Dev nD) : Nat :=
  let c0_i32_503 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let c2_i32_3 : BitVec 32 := 2#32
  let v10 : BitVec 32 := Scalar.muli c2_i32_3 v8
  let v11 : BitVec 32 := Scalar.subi c7_i32 v10
  let v12 : BitVec 32 := Scalar.muli v2 v11
  let v13 : BitVec 32 := Scalar.addi v8 v12
  let c7_i32_13 : BitVec 32 := 7#32
  let v29 : BitVec 32 := Scalar.addi v13 c7_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c3_i32_20 : BitVec 32 := 3#32
  let v40 : BitVec 1 := Scalar.cmpi .sle v39 c3_i32_20
  let c0_i32_21 : BitVec 32 := 0#32
  let c1_i32_22 : BitVec 32 := 1#32
  let v41 : BitVec 32 := Scalar.select v40 c0_i32_21 c1_i32_22
  let c8_i32_502 : BitVec 32 := 8#32
  let v735 : BitVec 32 := Scalar.muli v41 c8_i32_502
  let v736 : BitVec 32 := Scalar.addi c0_i32_503 v735
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v737 : BitVec 32 := Scalar.muli v5 c4_i32_504
  let v738 : BitVec 32 := Scalar.addi v736 v737
  let c7_i32_23 : BitVec 32 := 7#32
  let v42 : BitVec 32 := Scalar.subi c7_i32_23 v39
  let v43 : BitVec 32 := Scalar.select v40 v39 v42
  let c1_i32_505 : BitVec 32 := 1#32
  let v739 : BitVec 32 := Scalar.muli v43 c1_i32_505
  let v740 : BitVec 32 := Scalar.addi v738 v739
  v740.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
# The mesh, the chunks and the program

The sixteen devices form a 2 × 2 × 4 mesh (x, y, z). At each of the two values of y the eight devices of the
(x, z) plane form a ring. This module names a device's partner across y (`yn`) and its two ring neighbours
(`right`, `left`), the chunks of sixteen rows the kernel moves, its semaphores, and the kernel body as five plain loops
(`bodyP`): the send loop across y, the loop that adds and passes on, and the loops of waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.ProtocolKit
public import Idealize.ShloMosaic.Lib.Tactic

@[expose] public section

noncomputable section

namespace Cert.KernelIdeal.Work

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## Devices -/

/-- The device with the other y. -/
abbrev yn (c : Dev nD) : Dev nD := ⟨k0_dev1 c, k0_dev1_lt c⟩
/-- The next device of the ring at the same y. -/
abbrev right (c : Dev nD) : Dev nD := ⟨k0_dev2 c, k0_dev2_lt c⟩
/-- The previous device of the ring at the same y. -/
abbrev left (c : Dev nD) : Dev nD := ⟨k0_dev3 c, k0_dev3_lt c⟩

/-! ## Chunks -/

/-- The ring offset of chunk `k` among the twelve a device computes. -/
def kO : Fin 12 → Fin 8 := ![0, 0, 0, 0, 2, 2, 2, 2, 5, 5, 5, 5]
/-- The quarter (sixteen rows) of chunk `k`. -/
def kS : Fin 12 → Fin 4 := ![0, 1, 2, 3, 0, 1, 2, 3, 0, 1, 2, 3]
/-- The ring offset at which chunk `k` of the left neighbour lies here. -/
def flO : Fin 12 → Fin 8 := ![7, 7, 7, 7, 1, 1, 1, 1, 4, 4, 4, 4]
/-- The ring offset at which chunk `k + 4` of the right neighbour lies here. -/
def frO : Fin 8 → Fin 8 := ![3, 3, 3, 3, 6, 6, 6, 6]
/-- Chunk `k + 4`: the chunks also passed on to the left. -/
abbrev up (k : Fin 8) : Fin 12 := ⟨k.val + 4, by omega⟩

abbrev xM : Memref sig .tc .vmem S512x512 .f32 := Memref.whole cc0_stg0_0
abbrev oM : Memref sig .tc .vmem S512x512 .f32 := Memref.whole cc0_stg1_0
abbrev rM : Memref sig .tc .vmem S192x512 .f32 := Memref.whole cc0_scratch0

/-- The sixteen rows at ring offset `r`, quarter `s`, as device `d` finds them. -/
abbrev rowR (d : Dev nD) (r : Fin 8) (s : Fin 4) : Rect S512x512 :=
  Rect.unit (s := S512x512) (k0_off1 d (BitVec.ofNat 32 r.val) (BitVec.ofNat 32 (16 * s.val))) S16x512.size (k0_off1_inb d r s)

theorem comm_inb : ∀ (k : Fin 12) (a : Fin 2), (![16 * k.val, 0] : Fin 2 → Nat) a + S16x512.size a ≤ S192x512.size a := by decide
/-- The sixteen rows of the landing buffer that chunk `k` lands in. -/
abbrev commR (k : Fin 12) : Rect S192x512 := Rect.unit (s := S192x512) ![16 * k.val, 0] S16x512.size (comm_inb k)

abbrev xS (d : Dev nD) (r : Fin 8) (s : Fin 4) : Memref sig .tc .vmem S16x512 .f32 := xM.slice (rowR d r s) (fun _ => rfl)
abbrev oS (d : Dev nD) (r : Fin 8) (s : Fin 4) : Memref sig .tc .vmem S16x512 .f32 := oM.slice (rowR d r s) (fun _ => rfl)
abbrev cS (k : Fin 12) : Memref sig .tc .vmem S16x512 .f32 := rM.slice (commR k) (fun _ => rfl)

/-! ## Semaphores -/

theorem s12_inb : ∀ (k : Fin 12) (a : Fin 1), (![k.val] : Fin 1 → Nat) a + S1.size a ≤ S12.size a := by decide
theorem s8_inb : ∀ (k : Fin 8) (a : Fin 1), (![k.val] : Fin 1 → Nat) a + S1.size a ≤ S8.size a := by decide

/-- Semaphore `k` of an array of twelve. -/
abbrev at12 (a : DmaSems sig S12) (k : Fin 12) : DmaSem sig :=
  ((a.slice (Rect.unit (s := S12) ![k.val] S1.size (s12_inb k))).squeeze S_ squeezes_S1_S_).sem
/-- Semaphore `k` of an array of eight. -/
abbrev at8 (a : DmaSems sig S8) (k : Fin 8) : DmaSem sig :=
  ((a.slice (Rect.unit (s := S8) ![k.val] S1.size (s8_inb k))).squeeze S_ squeezes_S1_S_).sem

/-- The runtime's barrier semaphore. -/
abbrev barS : Sem sig := (SemArray.scalar (sig.barrier 0 rfl) : Sems sig S_).sem

/-- The kernel's 64 transfer semaphores: of the sends across y and their arrivals, of the sends to the right and their
    arrivals, of the sends to the left and their arrivals. -/
abbrev CK := Fin 12 ⊕ Fin 12 ⊕ Fin 12 ⊕ Fin 12 ⊕ Fin 8 ⊕ Fin 8
@[match_pattern] abbrev ys (k : Fin 12) : CK := .inl k
@[match_pattern] abbrev yr (k : Fin 12) : CK := .inr (.inl k)
@[match_pattern] abbrev rs (k : Fin 12) : CK := .inr (.inr (.inl k))
@[match_pattern] abbrev rr (k : Fin 12) : CK := .inr (.inr (.inr (.inl k)))
@[match_pattern] abbrev ls (k : Fin 8) : CK := .inr (.inr (.inr (.inr (.inl k))))
@[match_pattern] abbrev lr (k : Fin 8) : CK := .inr (.inr (.inr (.inr (.inr k))))

/-- The semaphore each name stands for. -/
def sem : CK → DmaSem sig
  | ys k => at12 cc0_scratch1 k
  | yr k => at12 cc0_scratch2 k
  | rs k => at12 cc0_scratch3 k
  | rr k => at12 cc0_scratch4 k
  | ls k => at8 cc0_scratch5 k
  | lr k => at8 cc0_scratch6 k

/-! ## The program -/

abbrev Prg (F : FTy → Type) [FloatOps F] (A : Type) := Prog (TpuEff nD τ sig (Elt F) Λ₀ .tc) A

/-- Run `f 0`, …, `f (n-1)` in order. -/
def seqN : (n : ℕ) → (Fin n → Prg F PUnit) → Prg F PUnit
  | 0, _ => pure ⟨⟩
  | n + 1, f => do f 0; seqN n (fun i => f i.succ)

/-- Send chunk `k` of the own block across y. -/
def sendY (d : Dev nD) (k : Fin 12) : Prg F PUnit :=
  Prog.lift (.enqueueDma (xS d (kO k) (kS k)) (.remote (Dev.tc (yn d)) (cS k) (.dma (sem (ys k)))) (.dma (sem (yr k)))
    (View.wordExact_bits rfl) (View.wordExact_bits rfl) ⟨⟨rfl, Or.inl rfl⟩, trivial⟩)
/-- Send the finished chunk `k` to the right. -/
def sendR (d : Dev nD) (k : Fin 12) : Prg F PUnit :=
  Prog.lift (.enqueueDma (oS d (kO k) (kS k)) (.remote (Dev.tc (right d)) (oS d (kO k) (kS k)) (.dma (sem (rs k)))) (.dma (sem (rr k)))
    (View.wordExact_bits rfl) (View.wordExact_bits rfl) ⟨⟨rfl, Or.inl rfl⟩, trivial⟩)
/-- Send the finished chunk `k + 4` to the left. -/
def sendL (d : Dev nD) (k : Fin 8) : Prg F PUnit :=
  Prog.lift (.enqueueDma (oS d (kO (up k)) (kS (up k))) (.remote (Dev.tc (left d)) (oS d (kO (up k)) (kS (up k))) (.dma (sem (ls k)))) (.dma (sem (lr k)))
    (View.wordExact_bits rfl) (View.wordExact_bits rfl) ⟨⟨rfl, Or.inl rfl⟩, trivial⟩)

/-- Wait on a transfer semaphore for the bytes of one chunk. -/
def waitC (q : DmaSem sig) (src dst : Memref sig .tc .vmem S16x512 .f32) : Prg F PUnit :=
  Prog.lift (.waitDma2 q src dst (View.wordExact_bits rfl) (View.wordExact_bits rfl))

/-- The sum of an own chunk and a landed one. -/
def addV (a b : Vec F S16x512 .f32) : FVec F S16x512 .f32 := addf (shapeCast S16x512 a shapeCasts_S16x512_S16x512) b

/-- Chunk `k`: await it, add, store, send to the right. -/
def core (d : Dev nD) (k : Fin 12) : Prg F PUnit := do
  waitC (sem (yr k)) (xS d (kO k) (kS k)) (cS k)
  let a : Vec F S16x512 .f32 ← Prog.lift (.load xM (rowR d (kO k) (kS k)).toLoadRect (View.loadsAt_vmem h_S16x512))
  let b : Vec F S16x512 .f32 ← Prog.lift (.load rM (commR k).toLoadRect (View.loadsAt_vmem h_S16x512))
  let _ : Vec F S16x512 .f32 ← Prog.lift (.load oM (rowR d (kO k) (kS k)).toLoadRect (View.loadsAt_vmem h_S16x512))
  Prog.lift (.store oM (rowR d (kO k) (kS k)) (addV a b) Finset.univ (View.stores_vmem_bits_univ h_S16x512 rfl) (.inl rfl))
  sendR d k
/-- Chunk `k`, and from chunk 4 on the send to the left. -/
def stage (d : Dev nD) (k : Fin 12) : Prg F PUnit := do
  core d k
  if h : 4 ≤ k.val then sendL d ⟨k.val - 4, by omega⟩ else pure ⟨⟩

def waitRR (d : Dev nD) (k : Fin 12) : Prg F PUnit := waitC (sem (rr k)) (oS d (flO k) (kS k)) (oS d (flO k) (kS k))
def waitLR (d : Dev nD) (k : Fin 8) : Prg F PUnit := waitC (sem (lr k)) (oS d (frO k) (kS (up k))) (oS d (frO k) (kS (up k)))
def waitYS (d : Dev nD) (k : Fin 12) : Prg F PUnit := waitC (sem (ys k)) (cS k) (xS d (kO k) (kS k))
def waitRS (d : Dev nD) (k : Fin 12) : Prg F PUnit := waitC (sem (rs k)) (oS d (kO k) (kS k)) (oS d (kO k) (kS k))
def waitLS (d : Dev nD) (k : Fin 8) : Prg F PUnit := waitC (sem (ls k)) (oS d (kO (up k)) (kS (up k))) (oS d (kO (up k)) (kS (up k)))
/-- The end of the sends of chunk `k`. -/
def waitS (d : Dev nD) (k : Fin 12) : Prg F PUnit := do
  waitRS d k
  if h : 4 ≤ k.val then waitLS d ⟨k.val - 4, by omega⟩ else pure ⟨⟩

/-- The handshake on the barrier: a signal to the partner across y and to both ring neighbours, and a wait for three. -/
def bars (d : Dev nD) : Prg F PUnit := do
  semSignalWord (yn d) barS 1#32
  semSignalWord (right d) barS 1#32
  semSignalWord (left d) barS 1#32
  semWaitWord barS 3#32

/-- The body after the device's number is read. -/
def bodyD (d : Dev nD) : Prg F PUnit := do
  bars d
  seqN 12 (sendY d)
  seqN 12 (stage d)
  seqN 12 (waitRR d)
  seqN 8 (waitLR d)
  seqN 12 (waitYS d)
  seqN 12 (waitS d)
/-- The body. -/
def bodyP : Prg F PUnit := do
  let d : Dev nD ← Prog.lift .deviceId
  bodyD d

end Cert.KernelIdeal.Work
-- ==== Proof.Chunks.lean ====
/-
# The ring's arithmetic and the chunks' places

The ring neighbours undo each other; a chunk computed on one device lies on its neighbour at the offsets the neighbour
waits for; and the 32 chunks of sixteen rows (twelve own, twelve from the left, eight from the right) tile the block.
-/
module

public import proofs.«01_k».proof.Proof.Mesh

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open Idealize.SL.Sem

variable {F : FTy → Type} [FloatOps F]

/-! ## Devices -/

theorem yn_yn : ∀ c : Dev nD, yn (yn c) = c := by decide +kernel
theorem left_right : ∀ c : Dev nD, left (right c) = c := by decide +kernel
theorem right_left : ∀ c : Dev nD, right (left c) = c := by decide +kernel

/-- The exchange across y, as a permutation of the devices. -/
def ynE : Dev nD ≃ Dev nD := ⟨yn, yn, yn_yn, yn_yn⟩
/-- The step to the right, as a permutation of the devices. -/
def rightE : Dev nD ≃ Dev nD := ⟨right, left, left_right, right_left⟩

/-! ## Offsets -/

/-- A device's position on its ring. -/
def pos (c : Dev nD) : ℕ := if c.val < 8 then c.val % 4 else 7 - c.val % 4

/-- Row offset of ring offset `r`, quarter `s`. -/
def rowOf (c : Dev nD) (r : Fin 8) (s : Fin 4) : ℕ := 64 * ((pos c + r.val) % 8) + 16 * s.val

theorem off_eq : ∀ (c : Dev nD) (r : Fin 8) (s : Fin 4),
    k0_off1 c (BitVec.ofNat 32 r.val) (BitVec.ofNat 32 (16 * s.val)) = ![rowOf c r s, 0] := by decide +kernel

theorem off_yn : ∀ (c : Dev nD) (r : Fin 8) (s : Fin 4), rowOf (yn c) r s = rowOf c r s := by decide +kernel
theorem off_right : ∀ (c : Dev nD) (k : Fin 12), rowOf (right c) (flO k) (kS k) = rowOf c (kO k) (kS k) := by decide +kernel
theorem off_left : ∀ (c : Dev nD) (k : Fin 8), rowOf (left c) (frO k) (kS (up k)) = rowOf c (kO (up k)) (kS (up k)) := by decide +kernel

/-- Two unit rectangles at equal offsets are one. -/
theorem unit_congr {s : Shape} {o o' : Fin s.rank → ℕ} (h : o = o') (n : Fin s.rank → ℕ) (i i') :
    Rect.unit (s := s) o n i = Rect.unit (s := s) o' n i' := by subst h; rfl

theorem rowR_congr {c c' : Dev nD} {r r' : Fin 8} {s s' : Fin 4} (h : rowOf c r s = rowOf c' r' s') : rowR c r s = rowR c' r' s' :=
  unit_congr (by rw [off_eq, off_eq, h]) _ _ _
theorem oS_congr {c c' : Dev nD} {r r' : Fin 8} {s s' : Fin 4} (h : rowOf c r s = rowOf c' r' s') : oS c r s = oS c' r' s' :=
  Memref.slice_unit_congr _ (by rw [off_eq, off_eq, h]) _ _ _ _
theorem xS_congr {c c' : Dev nD} {r r' : Fin 8} {s s' : Fin 4} (h : rowOf c r s = rowOf c' r' s') : xS c r s = xS c' r' s' :=
  Memref.slice_unit_congr _ (by rw [off_eq, off_eq, h]) _ _ _ _

/-! ## The chunks tile the block -/

/-- Membership in a chunk: by the row. -/
theorem mem_rowR {c : Dev nD} {r : Fin 8} {s : Fin 4} {i : S512x512.Idx} :
    i ∈ (rowR c r s).set ↔ rowOf c r s ≤ (i 0).val ∧ (i 0).val < rowOf c r s + 16 := by
  rw [Rect.mem_set_unit, off_eq]
  constructor
  · intro h; exact h 0
  · intro h a
    match a with
    | ⟨0, _⟩ => exact h
    | ⟨1, _⟩ => exact ⟨Nat.zero_le _, by have := (i 1).isLt; simpa using this⟩

theorem mem_commR {k : Fin 12} {i : S192x512.Idx} :
    i ∈ (commR k).set ↔ 16 * k.val ≤ (i 0).val ∧ (i 0).val < 16 * k.val + 16 := by
  rw [Rect.mem_set_unit]
  constructor
  · intro h; exact h 0
  · intro h a
    match a with
    | ⟨0, _⟩ => exact h
    | ⟨1, _⟩ => exact ⟨Nat.zero_le _, by have := (i 1).isLt; simpa using this⟩

/-- The chunks by origin: own, from the left, from the right. -/
abbrev T := Fin 12 ⊕ Fin 12 ⊕ Fin 8
/-- Ring offset and quarter of a chunk. -/
def tO : T → Fin 8
  | .inl k => kO k | .inr (.inl k) => flO k | .inr (.inr k) => frO k
def tS : T → Fin 4
  | .inl k => kS k | .inr (.inl k) => kS k | .inr (.inr k) => kS (up k)

theorem tOS_inj : ∀ t t' : T, tO t = tO t' → tS t = tS t' → t = t' := by decide +kernel
theorem tOS_surj : ∀ (r : Fin 8) (s : Fin 4), ∃ t : T, tO t = r ∧ tS t = s := by decide +kernel

theorem row_lt (c : Dev nD) (r : Fin 8) (s : Fin 4) : rowOf c r s + 16 ≤ 512 := by unfold rowOf; omega
theorem rowOf_inj (c : Dev nD) {r r' : Fin 8} {s s' : Fin 4} {n : ℕ} (h : rowOf c r s ≤ n ∧ n < rowOf c r s + 16)
    (h' : rowOf c r' s' ≤ n ∧ n < rowOf c r' s' + 16) : r = r' ∧ s = s' := by
  unfold rowOf at h h'
  exact ⟨Fin.ext (by omega), Fin.ext (by omega)⟩
theorem rowOf_surj (c : Dev nD) {n : ℕ} (hn : n < 512) : ∃ (r : Fin 8) (s : Fin 4), rowOf c r s ≤ n ∧ n < rowOf c r s + 16 := by
  refine ⟨⟨(n / 64 + 8 - pos c % 8) % 8, by omega⟩, ⟨n % 64 / 16, by omega⟩, ?_⟩
  unfold rowOf; simp only; omega

/-- The set of a chunk of the result buffer (and of the input buffer): the same rows. -/
theorem oS_set (c : Dev nD) (r : Fin 8) (s : Fin 4) : (oS c r s).view.set = (rowR c r s).set := View.set_slice_whole _ _
theorem xS_set (c : Dev nD) (r : Fin 8) (s : Fin 4) : (xS c r s).view.set = (rowR c r s).set := View.set_slice_whole _ _
theorem cS_set (k : Fin 12) : (cS k).view.set = (commR k).set := View.set_slice_whole _ _

theorem rows_disjoint (c : Dev nD) : ∀ t ∈ (Finset.univ : Finset T), ∀ t' ∈ (Finset.univ : Finset T), t ≠ t' →
    Disjoint (rowR c (tO t) (tS t)).set (rowR c (tO t') (tS t')).set := fun t _ t' _ h =>
  Finset.disjoint_left.mpr fun i hi hi' => h (by
    have := rowOf_inj c (mem_rowR.mp hi) (mem_rowR.mp hi')
    exact tOS_inj t t' this.1 this.2)
theorem rows_cover (c : Dev nD) : (Finset.univ : Finset T).biUnion (fun t => (rowR c (tO t) (tS t)).set) = Finset.univ := by
  ext i
  simp only [Finset.mem_biUnion, Finset.mem_univ, true_and, iff_true]
  obtain ⟨r, s, h⟩ := rowOf_surj c (i 0).isLt
  obtain ⟨t, rfl, rfl⟩ := tOS_surj r s
  exact ⟨t, mem_rowR.mpr h⟩

theorem comm_disjoint : ∀ k ∈ (Finset.univ : Finset (Fin 12)), ∀ k' ∈ (Finset.univ : Finset (Fin 12)), k ≠ k' →
    Disjoint (commR k).set (commR k').set := fun k _ k' _ h =>
  Finset.disjoint_left.mpr fun i hi hi' => h (by
    have h1 := mem_commR.mp hi; have h2 := mem_commR.mp hi'
    exact Fin.ext (by omega))
theorem comm_cover : (Finset.univ : Finset (Fin 12)).biUnion (fun k => (commR k).set) = Finset.univ := by
  ext i
  simp only [Finset.mem_biUnion, Finset.mem_univ, true_and, iff_true]
  have h : (i 0).val < 192 := (i 0).isLt
  exact ⟨⟨(i 0).val / 16, by omega⟩, mem_commR.mpr (by simp only; omega)⟩

/-! ## Semaphores -/

set_option synthInstance.maxSize 4096 in
set_option synthInstance.maxHeartbeats 400000 in
theorem sem_inj : Function.Injective sem := by
  have h : ∀ j j' : CK, (SemLoc.dma (sem j) : SemLoc sig) = .dma (sem j') → j = j' := by decide +kernel
  exact fun j j' e => h j j' (congrArg _ e)

end Cert.KernelIdeal.Work
-- ==== Proof.Sched.lean ====
/-
# The schedule of signals and transfers

Every semaphore is a cell with one round. The barrier cell of a device collects three duties, one from its partner across
y and one from each ring neighbour, each with the buffers the payer lets the device write. A transfer cell has one duty,
paid by the transfer: the end of a send returns the source chunk, an arrival brings the chunk that was written, with what
was written there. This module states these payloads with the exact contents, and the levels by which no wait is circular.
-/
module

public import proofs.«01_k».proof.Proof.Chunks

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev cell (c : Dev nD) (j : CK) : GSem nD τ sig := ((c : Thread nD τ), .dma (sem j))

/-- The bytes of one chunk, as its transfer counts them. -/
abbrev N : ℕ := (cS 0).view.dmaCredit
theorem N_pos : 0 < N := View.dmaCredit_pos _ (by decide)

/-- The name of a transfer semaphore. -/
def decode : DmaSem sig → Option CK := Function.partialInv sem
theorem decode_sem (j : CK) : decode (sem j) = some j := Function.partialInv_left sem_inj j

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The sum of device `c`'s block and its partner's. -/
def sumAt (c : Dev nD) : (cc0_stg1_0 : Ref sig .tc).ty.Contents (Elt F) :=
  addf (F := F) (s := S512x512) (φ := .f32) (xstg m ρ c) (xstg m ρ (yn c))

/-- A chunk of the input buffer at share `q`. -/
def xC (c : Dev nD) (r : Fin 8) (s : Fin 4) (q : PosShare TreeShare) : sProp 𝕄 :=
  (xS c r s).view.loc (c : Thread nD τ) ↦[(xS c r s).view.set]{q} xstg m ρ c
/-- A chunk of the result buffer at share `q`, holding `f` there. -/
def oC (c : Dev nD) (r : Fin 8) (s : Fin 4) (q : PosShare TreeShare) (f : (cc0_stg1_0 : Ref sig .tc).ty.Contents (Elt F)) : sProp 𝕄 :=
  (oS c r s).view.loc (c : Thread nD τ) ↦[(oS c r s).view.set]{q} f
/-- A chunk of the landing buffer, holding `f` there. -/
def cC (c : Dev nD) (k : Fin 12) (f : (cc0_scratch0 : Ref sig .tc).ty.Contents (Elt F)) : sProp 𝕄 :=
  (cS k).view.loc (c : Thread nD τ) ↦[(cS k).view.set]{fullShare} f

omit [FloatOps F] in
instance xC_storable (c r s q) : BI.Storable (upEmb : UEmb _ 𝕄) (xC (F := F) m ρ c r s q) := by unfold xC; infer_instance
omit [FloatOps F] in
instance oC_storable (c r s q f) : BI.Storable (upEmb : UEmb _ 𝕄) (oC (F := F) c r s q f) := by unfold oC; infer_instance
omit [FloatOps F] in
instance cC_storable (c k f) : BI.Storable (upEmb : UEmb _ 𝕄) (cC (F := F) c k f) := by unfold cC; infer_instance

/-- A landed chunk: the landing buffer's chunk `k` reads as the partner's chunk. -/
def landC (c : Dev nD) (k : Fin 12) : sProp 𝕄 :=
  iprop(∃ f, ⌜(cS k).view.read (Elt F) f = (xS c (kO k) (kS k)).view.read (Elt F) (xstg m ρ (yn c))⌝ ∗ cC c k f)

/-- The share of a finished chunk the send to the right borrows: all of it, or half where it also goes left. -/
def rShare (k : Fin 12) : PosShare TreeShare := if k.val < 4 then fullShare else fullShare.left

/-! ## The schedule -/

/-- What a transfer cell's duty brings. -/
def pay (c : Dev nD) : CK → sProp 𝕄
  | ys k => xC m ρ c (kO k) (kS k) fullShare.left
  | yr k => landC m ρ c k
  | rs k => oC c (kO k) (kS k) (rShare k) (sumAt m ρ c)
  | rr k => oC c (flO k) (kS k) fullShare (sumAt m ρ (left c))
  | ls k => oC c (kO (up k)) (kS (up k)) fullShare.right (sumAt m ρ c)
  | lr k => oC c (frO k) (kS (up k)) fullShare (sumAt m ρ (right c))

/-- The own landing chunks, let go for the partner across y. -/
def giveY (c : Dev nD) : sProp 𝕄 := bigSep Finset.univ fun k : Fin 12 => iprop(∃ f, cC (F := F) c k f)
/-- The own result chunks the right neighbour writes. -/
def giveR (c : Dev nD) : sProp 𝕄 := bigSep Finset.univ fun k : Fin 8 => iprop(∃ f, oC (F := F) c (frO k) (kS (up k)) fullShare f)
/-- The own result chunks the left neighbour writes. -/
def giveL (c : Dev nD) : sProp 𝕄 := bigSep Finset.univ fun k : Fin 12 => iprop(∃ f, oC (F := F) c (flO k) (kS k) fullShare f)

/-- What the duties of device `c`'s barrier cell bring: the partner's landing chunks, the left neighbour's chunks that
    `c` writes, the right neighbour's chunks that `c` writes. -/
def barPay (c : Dev nD) : Fin 3 → sProp 𝕄
  | 0 => giveY (yn c)
  | 1 => giveR (left c)
  | 2 => giveL (right c)

omit [FloatOps F] in
instance landC_storable (c k) : BI.Storable (upEmb : UEmb _ 𝕄) (landC (F := F) m ρ c k) := by unfold landC; infer_instance
omit [FloatOps F] in
instance giveY_storable (c) : BI.Storable (upEmb : UEmb _ 𝕄) (giveY (F := F) c) := by unfold giveY; infer_instance
omit [FloatOps F] in
instance giveR_storable (c) : BI.Storable (upEmb : UEmb _ 𝕄) (giveR (F := F) c) := by unfold giveR; infer_instance
omit [FloatOps F] in
instance giveL_storable (c) : BI.Storable (upEmb : UEmb _ 𝕄) (giveL (F := F) c) := by unfold giveL; infer_instance

instance pay_storable (c : Dev nD) : ∀ j, BI.Storable (upEmb : UEmb _ 𝕄) (pay (F := F) m ρ c j)
  | ys k => by unfold pay; infer_instance
  | yr k => by unfold pay; infer_instance
  | rs k => by unfold pay; infer_instance
  | rr k => by unfold pay; infer_instance
  | ls k => by unfold pay; infer_instance
  | lr k => by unfold pay; infer_instance
omit [FloatOps F] in
instance barPay_storable (c : Dev nD) : ∀ d, BI.Storable (upEmb : UEmb _ 𝕄) (barPay (F := F) c d)
  | 0 => by unfold barPay; infer_instance
  | 1 => by unfold barPay; infer_instance
  | 2 => by unfold barPay; infer_instance

/-- What a transfer semaphore's duty brings, by the semaphore; nothing at a semaphore of the staging. -/
def payQ (c : Dev nD) : Option CK → sProp 𝕄
  | some j => pay m ρ c j
  | none => iprop(emp)
instance payQ_storable (c : Dev nD) : ∀ j, BI.Storable (upEmb : UEmb _ 𝕄) (payQ (F := F) m ρ c j)
  | some j => by unfold payQ; infer_instance
  | none => by unfold payQ; infer_instance

/-- The duties at a semaphore in round 0. -/
def dutyQ : SemLoc sig → Finset (Fin 3)
  | .reg _ => Finset.univ
  | .dma q => if (decode q).isSome then {0} else ∅

/-- One round at every cell. -/
def Rd : Rounds.Schedule (GSem nD τ sig) (Fin 3) 𝕄 where
  duties g r := if r = 0 ∧ g.1.2 = .tc then dutyQ g.2 else ∅
  unitless _ := False
  amount g _ _ := match g.2 with | .reg _ => 1 | .dma _ => N
  payload g _ d := match g.2 with | .reg _ => barPay g.1.1 d | .dma q => payQ m ρ g.1.1 (decode q)
  amount_pos g _ _ _ := by
    obtain ⟨_, s⟩ := g
    cases s
    · exact Nat.one_pos
    · exact N_pos

instance Rd_payload_storable (g : GSem nD τ sig) (r : ℕ) (d : Fin 3) :
    BI.Storable (upEmb : UEmb _ 𝕄) ((Rd (F := F) m ρ).payload g r d) := by
  obtain ⟨_, s⟩ := g
  cases s
  · exact barPay_storable _ _
  · exact payQ_storable _ _ _ _

section Sched
variable (c : Dev nD)

theorem duties_bar : (Rd (F := F) m ρ).duties (barCell c) 0 = Finset.univ := by dsimp only [Rd]; exact if_pos ⟨rfl, rfl⟩
theorem duties_cell (j : CK) : (Rd (F := F) m ρ).duties (cell c j) 0 = {0} := by
  dsimp only [Rd]; rw [if_pos ⟨rfl, rfl⟩]; show (if (decode (sem j)).isSome then ({0} : Finset (Fin 3)) else ∅) = {0}; rw [decode_sem]; rfl
theorem duties_later (g : GSem nD τ sig) : ∀ r, 1 ≤ r → (Rd (F := F) m ρ).duties g r = ∅ :=
  fun r hr => by dsimp only [Rd]; rw [if_neg fun h => by omega]
theorem amount_bar (d : Fin 3) : (Rd (F := F) m ρ).amount (barCell c) 0 d = 1 := rfl
theorem amount_cell (j : CK) (d : Fin 3) : (Rd (F := F) m ρ).amount (cell c j) 0 d = N := rfl
theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_cell (j : CK) : (Rd (F := F) m ρ).expect (cell c j) 0 = N := by
  unfold Schedule.expect Schedule.amountOf; rw [duties_cell, Finset.sum_singleton, amount_cell]
theorem payload_bar (d : Fin 3) : (Rd (F := F) m ρ).payload (barCell c) 0 d = barPay c d := rfl
theorem payload_cell (j : CK) (d : Fin 3) : (Rd (F := F) m ρ).payload (cell c j) 0 d = pay m ρ c j := by
  show payQ m ρ c (decode (sem j)) = _; rw [decode_sem]; rfl

/-- The barrier's round complete: all three payloads. -/
theorem rest_bar : bigSep ((Rd (F := F) m ρ).duties (barCell c) 0 \ ∅) (fun d => (Rd (F := F) m ρ).payload (barCell c) 0 d)
    = iprop(giveY (yn c) ∗ giveR (left c) ∗ giveL (right c)) := by
  rw [Finset.sdiff_empty, duties_bar, bigSep_univ_eq_bigSepL [0, 1, 2] (by decide) (by decide), bigSepL_cons_cons, bigSepL_cons_cons, bigSepL_singleton]
  rfl
theorem rest_cell (j : CK) : bigSep ((Rd (F := F) m ρ).duties (cell c j) 0 \ ∅) (fun d => (Rd (F := F) m ρ).payload (cell c j) 0 d) = pay m ρ c j := by
  rw [Finset.sdiff_empty, duties_cell, bigSep_singleton, payload_cell]

end Sched

/-! ## What each device owes; the levels -/

/-- The credits of the arrivals device `c` causes. -/
abbrev tY (c : Dev nD) (k : Fin 12) : CellTallies nD τ sig Unit := tallyAt (cell (yn c) (yr k)) () N
abbrev tR (c : Dev nD) (k : Fin 12) : CellTallies nD τ sig Unit := tallyAt (cell (right c) (rr k)) () N
abbrev tL (c : Dev nD) (k : Fin 8) : CellTallies nD τ sig Unit := tallyAt (cell (left c) (lr k)) () N

/-- The arrivals across y still to be caused from chunk `n` on. -/
def owY (c : Dev nD) (n : ℕ) : CellTallies nD τ sig Unit := ∑ k ∈ finFrom 12 n, tY c k
/-- The arrivals to the right from chunk `n` on. -/
def owR (c : Dev nD) (n : ℕ) : CellTallies nD τ sig Unit := ∑ k ∈ finFrom 12 n, tR c k
/-- The arrivals to the left from chunk `n` on. -/
def owL (c : Dev nD) (n : ℕ) : CellTallies nD τ sig Unit := ∑ k ∈ finFrom 8 n, tL c k
/-- All a device's transfers owe. -/
def owT (c : Dev nD) : CellTallies nD τ sig Unit := owR c 0 + owL c 0 + owY c 0
/-- All a device owes at launch: its transfers, and a unit to the barrier of its left, right and across neighbour. -/
def O₀ (c : Dev nD) : CellTallies nD τ sig Unit :=
  owT c + tallyAt (barCell (left c)) () 1 + tallyAt (barCell (right c)) () 1 + tallyAt (barCell (yn c)) () 1

def L (g : GSem nD τ sig) : Finset Unit := if g.1.2 = .tc then {()} else ∅
/-- The level of a transfer semaphore: the arrivals across y below the arrivals on the ring, all else at the bottom. -/
def lvQ : Option CK → ℕ
  | some (yr _) => 2 | some (rr _) => 3 | some (lr _) => 3 | _ => 0
/-- The barrier lies below every arrival. -/
def lv (g : GSem nD τ sig) (_ : Unit) : ℕ := match g.2 with | .reg _ => 1 | .dma q => lvQ (decode q)

theorem L_of_ne (g : GSem nD τ sig) (h : g.1.2 ≠ .tc) : L g = ∅ := if_neg h
theorem lv_cell (c : Dev nD) (j : CK) (u : Unit) : lv (cell c j) u = lvQ (some j) := by
  show lvQ (decode (sem j)) = _; rw [decode_sem]

/-- Everything owed in `O` lies above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.pos_of_ne_zero (fun e => by omega : ¬ (O g u + O' g u = 0)) with _
  by_cases h0 : 0 < O g u
  · exact h g u h0
  · exact h' g u (by omega)
theorem above_tally {n : ℕ} {c : Dev nD} {s : SemLoc sig} {k : ℕ} (h : n < lv ((c : Thread nD τ), s) ()) :
    Above n (tallyAt ((c : Thread nD τ), s) () k) := fun g u hg => by
  rw [tallyAt_apply] at hg
  by_cases e : g = ((c : Thread nD τ), s) ∧ u = ()
  · rw [e.1]; exact ⟨rfl, h⟩
  · rw [if_neg e] at hg; exact absurd hg (Nat.lt_irrefl 0)
theorem above_sum {n : ℕ} {I : Type} (S : Finset I) (f : I → CellTallies nD τ sig Unit) (h : ∀ i, Above n (f i)) : Above n (∑ i ∈ S, f i) := by
  classical
  induction S using Finset.induction_on with
  | empty => rw [Finset.sum_empty]; exact above_zero n
  | insert a S ha ih => rw [Finset.sum_insert ha]; exact above_add (h a) ih

theorem above_owY (c : Dev nD) (n : ℕ) : Above 1 (owY c n) := above_sum _ _ fun k => above_tally (by rw [lv_cell]; exact (by decide : 1 < 2))
theorem above_owR (c : Dev nD) (n : ℕ) : Above 2 (owR c n) := above_sum _ _ fun k => above_tally (by rw [lv_cell]; exact (by decide : 2 < 3))
theorem above_owL (c : Dev nD) (n : ℕ) : Above 2 (owL c n) := above_sum _ _ fun k => above_tally (by rw [lv_cell]; exact (by decide : 2 < 3))
theorem above_le {n n' : ℕ} (hn : n' ≤ n) {O : CellTallies nD τ sig Unit} (h : Above n O) : Above n' O :=
  fun g u hg => ⟨(h g u hg).1, lt_of_le_of_lt hn (h g u hg).2⟩
theorem above_owT (c : Dev nD) : Above 1 (owT c) :=
  above_add (above_add (above_le (by decide) (above_owR c 0)) (above_le (by decide) (above_owL c 0))) (above_owY c 0)
theorem above_O₀ (c : Dev nD) : Above 0 (O₀ c) :=
  above_add (above_add (above_add (above_le (by decide) (above_owT c)) (above_tally (show 0 < 1 by decide))) (above_tally (show 0 < 1 by decide))) (above_tally (show 0 < 1 by decide))

omit [FloatOps F] in
/-- A wait at level at most `n` is allowed while all that is owed lies above `n`. -/
theorem mayWait {n : ℕ} {O : CellTallies nD τ sig Unit} (c : Dev nD) (s : SemLoc sig) (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.Work
-- ==== Proof.Ctx.lean ====
/-
# What every device knows, and a wait

The facts all devices share throughout (the cells' invariants and the levels), and what a wait on a transfer semaphore
needs and leaves.
-/
module

public import proofs.«01_k».proof.Proof.Sched

@[expose] public section

set_option synthInstance.maxSize 4096
set_option maxRecDepth 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Program `p` on device `c` runs safely and ends in `Q`. -/
abbrev WP (c : Dev nD) {α : Type} (p : Prg F α) (Q : α → sProp 𝕄) : sProp 𝕄 :=
  wp frame (wpE (defs₀ (F := F)) 𝒱₀ (c : Thread nD τ) none) Set.univ p Q

/-! ## The shared facts -/

/-- The cell a name stands for: a device's barrier, or one of its transfer cells. -/
abbrev kcell (p : Dev nD × Option CK) : GSem nD τ sig :=
  match p.2 with | none => barCell p.1 | some j => cell p.1 j

/-- All cells' invariants, that all have reached round 0, and the levels. -/
def ctx (K : Dev nD × Option CK → ℕ) : sProp 𝕄 :=
  iprop((bigSep Finset.univ fun p : Dev nD × Option CK => cellInv ER (Rd m ρ) (K p) (kcell p))
    ∗ (bigSep Finset.univ fun p : Dev nD × Option CK => reached ER (kcell p) 0) ∗ levAts L lv)

instance ctx_persistent (K : Dev nD × Option CK → ℕ) : BI.Persistent (ctx (F := F) m ρ K) := by unfold ctx; infer_instance

variable (K : Dev nD × Option CK → ℕ)

/-- One conjunct of a family over all indices. -/
theorem big_elim {I : Type} [Fintype I] [DecidableEq I] (i : I) (Φ : I → sProp 𝕄) : (bigSep Finset.univ Φ : sProp 𝕄) ⊢ Φ i :=
  bigSep_elim (Finset.mem_univ i)

theorem ctx_inv (p : Dev nD × Option CK) : ctx m ρ K ⊢ cellInv ER (Rd m ρ) (K p) (kcell p) := by
  unfold ctx
  iintro ⟨H, -, -⟩
  iapply (big_elim p (fun p : Dev nD × Option CK => (cellInv ER (Rd m ρ) (K p) (kcell p) : sProp 𝕄)))
  iexact H
theorem ctx_reached (p : Dev nD × Option CK) : ctx m ρ K ⊢ reached ER (kcell p) 0 := by
  unfold ctx
  iintro ⟨-, H, -⟩
  iapply (big_elim p (fun p : Dev nD × Option CK => (reached ER (kcell p) 0 : sProp 𝕄)))
  iexact H
theorem ctx_lev : ctx m ρ K ⊢ (levAts L lv : sProp 𝕄) := by
  unfold ctx; iintro ⟨-, -, H⟩; iexact H

/-- What a device owes, with some record of waits. -/
def ow (c : Dev nD) (O : CellTallies nD τ sig Unit) : sProp 𝕄 := iprop(∃ W, owes (c : Thread nD τ) O W)

/-- A wait on transfer cell `j` is allowed while all that is owed lies above the cell. -/
theorem ctx_mayWait (c : Dev nD) (j : CK) {n : ℕ} {O : CellTallies nD τ sig Unit} (hj : lvQ (some j) ≤ n) (hO : Above n O) :
    ctx m ρ K ⊢ MayWait (c : Thread nD τ) (.dma (sem j)) () O := by
  have h : lv ((c : Thread nD τ), .dma (sem j)) () ≤ n := by
    have e := lv_cell c j ()
    unfold cell at e
    rw [e]; exact hj
  exact (@ctx_lev F _ m ρ K).trans (mayWait (F := F) c (.dma (sem j)) h hO)

/-! ## Waits -/

/-- A wait on transfer cell `j`, the whole round: what the transfer brings. -/
theorem wp_waitC (c : Dev nD) (j : CK) (src dst : Memref sig .tc .vmem S16x512 .f32) (hN : dst.view.dmaCredit = N) {n : ℕ}
    {O : CellTallies nD τ sig Unit} (hj : lvQ (some j) ≤ n) (hO : Above n O) :
    iprop(ctx m ρ K ∗ cred (tallyAt (cell c j) () N) ∗ atPos ER (cell c j) 0 ∅ 0 ∗ ow c O)
      ⊢ WP c (waitC (F := F) (sem j) src dst) (fun _ => iprop(pay m ρ c j ∗ atPos ER (cell c j) (0 + 1) ∅ 0 ∗ ow c O)) := by
  unfold waitC ow
  iintro ⟨#Hctx, Hc, Hat, ⟨%W, HO⟩⟩
  iapply (Rounds.wp_wait_rest_token 𝒱₀ ER (Rd m ρ) (c : Thread nD τ) none (κ := K (c, some j))
      (wpE_waitDma2_eq 𝒱₀ (c : Thread nD τ) none Set.univ) (Set.mem_univ _) () (O := O) (W := W) (R := 0) (m := 0) (T := ∅)
      (by rw [Nat.zero_add, expect_cell, hN])) $$ [Hc HO Hat]
  · isplitr; · iapply (ctx_inv m ρ K (c, some j)); iexact Hctx
    isplitl [Hc]; · rw [hN]; iexact Hc
    isplitl [HO]; · iexact HO
    isplitr
    · iapply (ctx_mayWait m ρ K c j hj hO); iexact Hctx
    iexact Hat
  iintro ⟨HO, Hat, -, Hpay⟩
  rw [wp_ret]; imodintro
  isplitl [Hpay]; · iapply (Entails.of_eq (rest_cell m ρ c j)); iexact Hpay
  isplitl [Hat]; · iexact Hat
  iexists _; iexact HO

end Cert.KernelIdeal.Work
-- ==== Proof.Steps.lean ====
/-
# One step of the kernel at a time

For each kind of operation of the body, what it needs and what it leaves: the send of an
input chunk across y, the send of a finished chunk to a ring neighbour, and the sum of a chunk.
-/
module

public import proofs.«01_k».proof.Proof.Ctx
public import Idealize.ShloMosaic.Lib.Pipeline.Value

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ)

/-! ## Chunks by their rows -/

omit [FloatOps F] in
theorem oC_eq (c : Dev nD) (r : Fin 8) (s : Fin 4) (q : PosShare TreeShare) (f) :
    (oC c r s q f : sProp 𝕄) = (((c : Thread nD τ).loc cc0_stg1_0) ↦[(rowR c r s).set]{q} f) := by
  unfold oC; rw [oS_set]
omit [FloatOps F] in
theorem xC_eq (c : Dev nD) (r : Fin 8) (s : Fin 4) (q : PosShare TreeShare) :
    (xC m ρ c r s q : sProp 𝕄) = (((c : Thread nD τ).loc cc0_stg0_0) ↦[(rowR c r s).set]{q} xstg m ρ c) := by
  unfold xC; rw [xS_set]
omit [FloatOps F] in
theorem cC_eq (c : Dev nD) (k : Fin 12) (f) :
    (cC c k f : sProp 𝕄) = (((c : Thread nD τ).loc cc0_scratch0) ↦[(commR k).set]{fullShare} f) := by
  unfold cC; rw [cS_set]

omit [FloatOps F] in
/-- A chunk of device `c'`'s result buffer, named by the rows as device `c` finds them. -/
theorem oC_move {c c' : Dev nD} {r r' : Fin 8} {s s' : Fin 4} (h : rowOf c' r' s' = rowOf c r s) (q : PosShare TreeShare) (f) :
    (oC c' r' s' q f : sProp 𝕄) = ((oS c r s).view.loc (c' : Thread nD τ) ↦[(oS c r s).view.set]{q} f) := by
  rw [oC_eq, rowR_congr h, ← oS_set]

/-- What a chunk of the input buffer reads, by its row offset. -/
def blkRead (o : Fin 2 → ℕ) (h : ∀ a, o a + S16x512.size a ≤ S512x512.size a) (X : (cc0_stg0_0 : Ref sig .tc).ty.Contents (Elt F)) : S16x512.Idx → Elt F .f32 :=
  (xM.slice (Rect.unit (s := S512x512) o S16x512.size h) (fun _ => rfl)).view.read (Elt F) X
omit [FloatOps F] in
theorem blkRead_congr {o o' : Fin 2 → ℕ} (e : o = o') (h h') (X : (cc0_stg0_0 : Ref sig .tc).ty.Contents (Elt F)) : blkRead o h X = blkRead o' h' X := by
  subst e; rfl

/-- What the partner's chunk reads is what the chunk at the same rows here would read. -/
theorem read_yn (c : Dev nD) (r : Fin 8) (s : Fin 4) (X : (cc0_stg0_0 : Ref sig .tc).ty.Contents (Elt F)) :
    (xS (yn c) r s).view.read (Elt F) X = (xS c r s).view.read (Elt F) X :=
  blkRead_congr (by rw [off_eq, off_eq, off_yn]) (k0_off1_inb (yn c) r s) (k0_off1_inb c r s) X

/-! ## Sends -/

/-- A transfer from `src` here to `dst` on `c'`, ending in cell `js` here and cell `jr` there. -/
theorem wp_sendC (c c' : Dev nD) (src dst : Memref sig .tc .vmem S16x512 .f32) (hN : dst.view.dmaCredit = N) (js jr : CK) (q : PosShare TreeShare)
    (hsc : dst.view.ref.isScScratch = false) (h1 : src.view.WordExact) (h2 : dst.view.WordExact)
    (h3 : DmaTarget.Typed .vmem (.dma (sem jr)) (.remote (Dev.tc c' : Thread nD τ) dst (.dma (sem js)) hsc))
    (fs : Buf (Elt F) (src.view.loc (c : Thread nD τ))) (fd : Buf (Elt F) (dst.view.loc (c' : Thread nD τ)))
    (hp1 : (src.view.loc (c : Thread nD τ) ↦[src.view.set]{q} fs : sProp 𝕄) ⊢ pay m ρ c js)
    (hp2 : (dst.view.loc (c' : Thread nD τ) ↦[dst.view.set]{fullShare} (dst.view.write (Elt F) fd (src.view.read (Elt F) fs) Finset.univ) : sProp 𝕄) ⊢ pay m ρ c' jr)
    (O : CellTallies nD τ sig Unit) :
    iprop(ctx m ρ K ∗ (src.view.loc (c : Thread nD τ) ↦[src.view.set]{q} fs) ∗ (dst.view.loc (c' : Thread nD τ) ↦[dst.view.set]{fullShare} fd)
        ∗ dutyTok ER (cell c js) 0 0 ∗ dutyTok ER (cell c' jr) 0 0 ∗ ow c (O + tallyAt (cell c' jr) () N))
      ⊢ WP c (Prog.lift (.enqueueDma src (.remote (Dev.tc c' : Thread nD τ) dst (.dma (sem js)) hsc) (.dma (sem jr)) h1 h2 h3))
          (fun _ => iprop(cred (tallyAt (cell c js) () N) ∗ ow c O)) := by
  unfold ow
  iintro ⟨#Hctx, Hx, Hd, Ht1, Ht2, ⟨%W, HO⟩⟩
  iapply (Rounds.wp_send_pointsTo 𝒱₀ ER (Rd m ρ) (c : Thread nD τ) none (κ₁ := K (c, some js)) (κ₂ := K (c', some jr))
    (r₁ := 0) (r₂ := 0) (d₁ := 0) (d₂ := 0) (fd := fd) (fs := fs)
    (by rw [duties_cell]; exact Finset.mem_singleton_self _) (by rw [duties_cell]; exact Finset.mem_singleton_self _)
    () () N (show dst.view.amount (.dma (sem jr)) = N from hN) (amount_cell m ρ c js 0) (amount_cell m ρ c' jr 0) O rfl (W := W)
    (by rw [payload_cell]; exact hp1) (by rw [payload_cell]; exact hp2)) $$ [Hx Hd HO Ht1 Ht2]
  · isplitr; · iapply (ctx_inv m ρ K (c, some js)); iexact Hctx
    isplitr; · iapply (ctx_inv m ρ K (c', some jr)); iexact Hctx
    isplitl [Hx]; · iexact Hx
    isplitl [Hd]; · iexact Hd
    isplitl [HO]; · iexact HO
    isplitl [Ht1]; · iexact Ht1
    isplitr; · iapply (ctx_reached m ρ K (c, some js)); iexact Hctx
    isplitl [Ht2]; · iexact Ht2
    iapply (ctx_reached m ρ K (c', some jr)); iexact Hctx
  iintro ⟨Hc, HO⟩
  rw [wp_ret]; imodintro
  isplitl [Hc]; · iexact Hc
  iexists _; iexact HO

theorem landed (c : Dev nD) (k : Fin 12) (fd : (cc0_scratch0 : Ref sig .tc).ty.Contents (Elt F)) :
    ((cS k).view.loc (yn c : Thread nD τ) ↦[(cS k).view.set]{fullShare}
        ((cS k).view.write (Elt F) fd ((xS c (kO k) (kS k)).view.read (Elt F) (xstg m ρ c)) Finset.univ) : sProp 𝕄) ⊢ landC m ρ (yn c) k := by
  unfold landC cC
  iintro H
  iexists _
  isplitr
  pick_goal 2
  · iexact H
  · ipureintro
    rw [View.read_write_univ, read_yn, yn_yn]

/-- The send of chunk `k` across y: the partner's landing chunk reads as the own chunk. -/
theorem wp_sendY (c : Dev nD) (k : Fin 12) (O : CellTallies nD τ sig Unit) :
    iprop(ctx m ρ K ∗ xC m ρ c (kO k) (kS k) fullShare.left ∗ (∃ f, cC (yn c) k f)
        ∗ dutyTok ER (cell c (ys k)) 0 0 ∗ dutyTok ER (cell (yn c) (yr k)) 0 0 ∗ ow c (O + tY c k))
      ⊢ WP c (sendY (F := F) c k) (fun _ => iprop(cred (tallyAt (cell c (ys k)) () N) ∗ ow c O)) := by
  unfold sendY
  iintro ⟨#Hctx, Hx, ⟨%fd, Hd⟩, Ht1, Ht2, HO⟩
  unfold cC
  iapply (wp_sendC m ρ K c (yn c) (xS c (kO k) (kS k)) (cS k) rfl (ys k) (yr k) fullShare.left _ _ _ _ (xstg m ρ c) fd
    (BI.Entails.refl _) (landed m ρ c k fd) O)
  isplitr; · iexact Hctx
  isplitl [Hx]; · unfold xC; iexact Hx
  isplitl [Hd]; · iexact Hd
  isplitl [Ht1]; · iexact Ht1
  isplitl [Ht2]; · iexact Ht2
  iexact HO

/-- A finished chunk rewritten by itself, as the neighbour names it. -/
theorem moved {c c' : Dev nD} {r r' : Fin 8} {s s' : Fin 4} (h : rowOf c' r' s' = rowOf c r s) (fd f : (cc0_stg1_0 : Ref sig .tc).ty.Contents (Elt F)) :
    ((oS c r s).view.loc (c' : Thread nD τ) ↦[(oS c r s).view.set]{fullShare}
        ((oS c r s).view.write (Elt F) fd ((oS c r s).view.read (Elt F) f) Finset.univ) : sProp 𝕄) ⊢ oC c' r' s' fullShare f := by
  rw [oC_move h]
  refine Entails.of_eq (pointsTo_congr fun i hi => ?_)
  obtain ⟨x, -, rfl⟩ := Finset.mem_map.mp hi
  rw [View.write_emb_of_mem _ _ (Finset.mem_univ _)]; rfl

/-- The send of a finished chunk to a neighbour `c'`, where it lies at ring offset `r'`, quarter `s'`. -/
theorem wp_sendO (c c' : Dev nD) (r r' : Fin 8) (s s' : Fin 4) (h : rowOf c' r' s' = rowOf c r s) (js jr : CK) (q : PosShare TreeShare)
    (hp1 : pay m ρ c js = oC c r s q (sumAt m ρ c)) (hp2 : pay m ρ c' jr = oC c' r' s' fullShare (sumAt m ρ c)) (O : CellTallies nD τ sig Unit) :
    iprop(ctx m ρ K ∗ oC c r s q (sumAt m ρ c) ∗ (∃ f, oC c' r' s' fullShare f)
        ∗ dutyTok ER (cell c js) 0 0 ∗ dutyTok ER (cell c' jr) 0 0 ∗ ow c (O + tallyAt (cell c' jr) () N))
      ⊢ WP c (Prog.lift (.enqueueDma (oS c r s) (.remote (Dev.tc c' : Thread nD τ) (oS c r s) (.dma (sem js))) (.dma (sem jr))
          (View.wordExact_bits rfl) (View.wordExact_bits rfl) ⟨⟨rfl, Or.inl rfl⟩, trivial⟩))
          (fun _ => iprop(cred (tallyAt (cell c js) () N) ∗ ow c O)) := by
  simp only [oC_move h]
  iintro ⟨#Hctx, Hx, ⟨%fd, Hd⟩, Ht1, Ht2, HO⟩
  iapply (wp_sendC m ρ K c c' (oS c r s) (oS c r s) rfl js jr q _ _ _ _ (sumAt m ρ c) fd
    (by rw [hp1]; exact BI.Entails.refl _) (by rw [hp2]; exact moved h fd _) O)
  isplitr; · iexact Hctx
  isplitl [Hx]; · unfold oC; iexact Hx
  isplitl [Hd]; · iexact Hd
  isplitl [Ht1]; · iexact Ht1
  isplitl [Ht2]; · iexact Ht2
  iexact HO

/-! ## The sum of a chunk -/

/-- The loads, the addition and the store of chunk `k`. -/
def sumStep (c : Dev nD) (k : Fin 12) : Prg F PUnit := do
  let a : Vec F S16x512 .f32 ← Prog.lift (.load xM (rowR c (kO k) (kS k)).toLoadRect (View.loadsAt_vmem h_S16x512))
  let b : Vec F S16x512 .f32 ← Prog.lift (.load rM (commR k).toLoadRect (View.loadsAt_vmem h_S16x512))
  let _ : Vec F S16x512 .f32 ← Prog.lift (.load oM (rowR c (kO k) (kS k)).toLoadRect (View.loadsAt_vmem h_S16x512))
  Prog.lift (.store oM (rowR c (kO k) (kS k)) (addV a b) Finset.univ (View.stores_vmem_bits_univ h_S16x512 rfl) (.inl rfl))

/-- The stored chunk holds the sum of the two blocks there. -/
theorem store_sum (c : Dev nD) (k : Fin 12) (g : (cc0_stg1_0 : Ref sig .tc).ty.Contents (Elt F)) (f : (cc0_scratch0 : Ref sig .tc).ty.Contents (Elt F))
    (hf : (cS k).view.read (Elt F) f = (xS c (kO k) (kS k)).view.read (Elt F) (xstg m ρ (yn c))) :
    ∀ i ∈ (oS c (kO k) (kS k)).view.set,
      ((oM.access (rowR c (kO k) (kS k)) : View sig .tc _ _ _).write (Elt F) g
        (addV (xM.view.readAt (Elt F) (rowR c (kO k) (kS k)).toLoadRect (xstg m ρ c)) (rM.view.readAt (Elt F) (commR k).toLoadRect f)) Finset.univ) i
        = sumAt m ρ c i := fun i hi => by
  obtain ⟨x, -, rfl⟩ := Finset.mem_map.mp hi
  refine (View.write_emb_of_mem (v := oM.access (rowR c (kO k) (kS k))) _ _ (Finset.mem_univ x)).trans ?_
  rw [show rM.view.readAt (Elt F) (commR k).toLoadRect f = _ from hf]
  unfold addV
  rw [shapeCast_self]
  rfl

/-- The sum of chunk `k`. -/
theorem wp_sum (c : Dev nD) (k : Fin 12) :
    iprop(landC m ρ c k ∗ xC m ρ c (kO k) (kS k) fullShare.right ∗ (∃ f, oC c (kO k) (kS k) fullShare f))
      ⊢ WP c (sumStep (F := F) c k) (fun _ => iprop((∃ f, cC c k f) ∗ xC m ρ c (kO k) (kS k) fullShare.right ∗ oC c (kO k) (kS k) fullShare (sumAt m ρ c))) := by
  unfold sumStep landC
  simp only [Prog.lift, Prog.bind_op, Prog.bind_ret]
  iintro ⟨⟨%f, %hf, Hc⟩, Hx, ⟨%g, Ho⟩⟩
  unfold xC cC oC
  iapply (wp_load 𝒱₀ (c : Thread nD τ) none Set.univ (m := xM) (S := (xS c (kO k) (kS k)).view.set) (View.set_slice _ _).ge) $$ Hx; iintro Hx
  iapply (wp_load 𝒱₀ (c : Thread nD τ) none Set.univ (m := rM) (S := (cS k).view.set) (View.set_slice _ _).ge) $$ Hc; iintro Hc
  iapply (wp_load 𝒱₀ (c : Thread nD τ) none Set.univ (m := oM) (S := (oS c (kO k) (kS k)).view.set) (View.set_slice _ _).ge) $$ Ho; iintro Ho
  iapply (wp_store 𝒱₀ (c : Thread nD τ) none Set.univ (m := oM) (r := rowR c (kO k) (kS k)) (Mk := Finset.univ) (S := (oS c (kO k) (kS k)).view.set) (Finset.Subset.refl _)) $$ Ho; iintro Ho
  rw [wp_ret]; imodintro
  isplitl [Hc]; · iexists f; iexact Hc
  isplitl [Hx]; · iexact Hx
  iapply (Entails.of_eq (pointsTo_congr (store_sum m ρ c k g f hf))); iexact Ho

end Cert.KernelIdeal.Work
-- ==== Proof.Loops.lean ====
/-
# The loops of the kernel

A loop whose turns each use up a resource of their own and leave one, and the body's own turns: a chunk awaited, summed and
passed on.
-/
module

public import proofs.«01_k».proof.Proof.Steps

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ)

/-! ## Sequences -/

omit [FloatOps F] in
theorem emp_sep_eq (P : sProp 𝕄) : (iprop(emp ∗ P) : sProp 𝕄) = P := equiv_iff.mp BI.emp_sep
omit [FloatOps F] in
theorem sep_emp_eq (P : sProp 𝕄) : (iprop(P ∗ emp) : sProp 𝕄) = P := equiv_iff.mp BI.sep_emp

omit [FloatOps F] in
theorem big_succ {n : ℕ} (Φ : Fin (n + 1) → sProp 𝕄) :
    (bigSep Finset.univ Φ : sProp 𝕄) = iprop(Φ 0 ∗ bigSep Finset.univ fun i => Φ (Fin.succ i)) := by
  rw [Fin.univ_succ, Finset.cons_eq_insert, bigSep_insert (by simp [Fin.succ_ne_zero]), bigSep_map]
  rfl

/-- What follows a program runs from what the program leaves and what it did not touch. -/
theorem wp_then (c : Dev nD) {p : Prg F PUnit} {p' : Prg F PUnit} {X P Q Fr : sProp 𝕄} [BI.Persistent X] {R : PUnit → sProp 𝕄}
    (h : iprop(X ∗ P) ⊢ WP c p (fun _ => Q)) (h' : iprop(X ∗ Q ∗ Fr) ⊢ WP c p' R) :
    iprop(X ∗ P ∗ Fr) ⊢ WP c (p >>= fun _ => p') R := by
  unfold WP
  rw [wp_bind]
  iintro ⟨#HX, HP, HF⟩
  iapply (wp_wand frame (wpE (defs₀ (F := F)) 𝒱₀ (c : Thread nD τ) none) Set.univ (p := p) (Q := fun _ => Q)) $$ [HP]
  · iapply h
    isplitr; · iexact HX
    iexact HP
  · iintro %a HQ
    iapply h'
    isplitr; · iexact HX
    isplitl [HQ]; · iexact HQ
    iexact HF

/-- A loop whose turn `i` uses up `A i` and leaves `B i`, the debts going from `O i` to `O (i + 1)`. -/
theorem wp_loop (c : Dev nD) {X : sProp 𝕄} [BI.Persistent X] : ∀ {n : ℕ} (f : Fin n → Prg F PUnit) (A B : Fin n → sProp 𝕄) (O : ℕ → CellTallies nD τ sig Unit)
    (h : ∀ i : Fin n, iprop(X ∗ A i ∗ ow c (O i.val)) ⊢ WP c (f i) (fun _ => iprop(B i ∗ ow c (O (i.val + 1))))),
    iprop(X ∗ bigSep Finset.univ A ∗ ow c (O 0)) ⊢ WP c (seqN n f) (fun _ => iprop(bigSep Finset.univ B ∗ ow c (O n)))
  | 0, f, A, B, O, h => by
    unfold seqN WP
    rw [show (pure PUnit.unit : Prg F PUnit) = .ret PUnit.unit from rfl, wp_ret, Finset.univ_eq_empty, bigSep_empty, bigSep_empty]
    iintro ⟨-, HE, HO⟩
    imodintro
    isplitl [HE]; · iexact HE
    iexact HO
  | n + 1, f, A, B, O, h => by
    unfold seqN
    rw [big_succ, big_succ]
    have h1 := wp_loop c (X := X) (fun i => f i.succ) (fun i => A i.succ) (fun i => B i.succ) (fun i => O (i + 1)) (fun i => h i.succ)
    unfold WP at h1 ⊢
    rw [wp_bind]
    iintro ⟨#HX, ⟨HA, HAs⟩, HO⟩
    iapply (wp_wand frame (wpE (defs₀ (F := F)) 𝒱₀ (c : Thread nD τ) none) Set.univ (p := f 0) (Q := fun _ => iprop(B 0 ∗ ow c (O (0 + 1))))) $$ [HA HO]
    · iapply (h 0)
      isplitr; · iexact HX
      isplitl [HA]; · iexact HA
      iexact HO
    iintro %a ⟨HB, HO⟩
    iapply (wp_wand frame (wpE (defs₀ (F := F)) 𝒱₀ (c : Thread nD τ) none) Set.univ (p := seqN n fun i => f i.succ)
      (Q := fun _ => iprop(bigSep Finset.univ (fun i => B (Fin.succ i)) ∗ ow c (O (n + 1))))) $$ [HAs HO]
    · iapply h1
      isplitr; · iexact HX
      isplitl [HAs]; · iexact HAs
      iexact HO
    iintro %b ⟨HBs, HO⟩
    isplitl [HB HBs]
    · isplitl [HB]; · iexact HB
      iexact HBs
    iexact HO

/-! ## The chunks that also go left -/

/-- `Φ (k - 4)` from chunk 4 on, nothing before. -/
def late (Φ : Fin 8 → sProp 𝕄) (k : Fin 12) : sProp 𝕄 := if h : 4 ≤ k.val then Φ ⟨k.val - 4, by omega⟩ else iprop(emp)

omit [FloatOps F] in
theorem late_of_lt (Φ : Fin 8 → sProp 𝕄) {k : Fin 12} (h : ¬ 4 ≤ k.val) : late Φ k = iprop(emp) := dif_neg h
omit [FloatOps F] in
theorem late_of_le (Φ : Fin 8 → sProp 𝕄) {k : Fin 12} (h : 4 ≤ k.val) : late Φ k = Φ ⟨k.val - 4, by omega⟩ := dif_pos h

omit [FloatOps F] in
/-- Over the twelve chunks, that is one resource for each of the eight. -/
theorem big_late (Φ : Fin 8 → sProp 𝕄) : (bigSep Finset.univ (late Φ) : sProp 𝕄) = bigSep Finset.univ Φ := by
  have e : ∀ Ψ : Fin 12 → sProp 𝕄, (bigSep Finset.univ Ψ : sProp 𝕄)
      = iprop(Ψ 0 ∗ Ψ 1 ∗ Ψ 2 ∗ Ψ 3 ∗ bigSep Finset.univ fun i : Fin 8 => Ψ (up i)) := fun Ψ => by
    rw [big_succ, big_succ, big_succ, big_succ]; rfl
  rw [e, late_of_lt Φ (by decide), late_of_lt Φ (by decide), late_of_lt Φ (by decide), late_of_lt Φ (by decide)]
  simp only [emp_sep_eq]
  refine congrArg (bigSep Finset.univ) (funext fun i => ?_)
  rw [late_of_le Φ (show 4 ≤ (up i).val from Nat.le_add_left 4 i.val)]
  exact congrArg Φ (Fin.ext (Nat.add_sub_cancel i.val 4))

/-! ## The turns -/

variable (c : Dev nD)

/-- What a turn of the stage loop needs for chunk `k`. -/
def coreRes (k : Fin 12) : sProp 𝕄 :=
  iprop(atPos ER (cell c (yr k)) 0 ∅ 0 ∗ cred (tallyAt (cell c (yr k)) () N) ∗ xC m ρ c (kO k) (kS k) fullShare.right
    ∗ (∃ f, oC c (kO k) (kS k) fullShare f) ∗ dutyTok ER (cell c (rs k)) 0 0 ∗ dutyTok ER (cell (right c) (rr k)) 0 0
    ∗ (∃ f, oC (right c) (flO k) (kS k) fullShare f))
/-- What it leaves. -/
def coreOut (k : Fin 12) : sProp 𝕄 :=
  iprop(atPos ER (cell c (yr k)) (0 + 1) ∅ 0 ∗ (∃ f, cC c k f) ∗ xC m ρ c (kO k) (kS k) fullShare.right ∗ cred (tallyAt (cell c (rs k)) () N))
/-- The half of a finished chunk kept for the send to the left. -/
def leftHalf (k : Fin 8) : sProp 𝕄 := oC c (kO (up k)) (kS (up k)) fullShare.right (sumAt m ρ c)
/-- What the send to the left of chunk `k + 4` needs besides. -/
def leftRes (k : Fin 8) : sProp 𝕄 :=
  iprop(dutyTok ER (cell c (ls k)) 0 0 ∗ dutyTok ER (cell (left c) (lr k)) 0 0 ∗ (∃ f, oC (left c) (frO k) (kS (up k)) fullShare f))

omit [FloatOps F] in
theorem up_sub {k : Fin 12} (h : 4 ≤ k.val) : up ⟨k.val - 4, by omega⟩ = k := Fin.ext (by show k.val - 4 + 4 = k.val; omega)

/-- A finished chunk is what the send to the right borrows and, from chunk 4 on, the half kept for the send to the left. -/
theorem split_own (k : Fin 12) : (oC c (kO k) (kS k) fullShare (sumAt m ρ c) : sProp 𝕄)
    = iprop(oC c (kO k) (kS k) (rShare k) (sumAt m ρ c) ∗ late (leftHalf m ρ c) k) := by
  by_cases h : 4 ≤ k.val
  · rw [late_of_le _ h]
    unfold leftHalf rShare
    rw [up_sub h, if_neg (by omega)]
    unfold oC
    have e := pointsTo_share (Val := Elt F) (f := sumAt m ρ c) (ℓ := (oS c (kO k) (kS k)).view.loc (c : Thread nD τ)) (I := (oS c (kO k) (kS k)).view.set)
      (Ix := Unit) (Name := ℕ) (U := UU) (Lvl := ℕ)
      (q := fullShare) (q₁ := fullShare.left) (q₂ := fullShare.right) (by rw [PosShare.left_op_right]; exact Part.mem_some _)
    exact BI.Entails.antisymm e.1 e.2
  · rw [late_of_lt _ h]
    unfold rShare
    rw [if_pos (by omega)]
    exact (sep_emp_eq _).symm

/-- What is owed at turn `k` of the stage loop: the sends to the right from chunk `k` on, those to the left from chunk `k - 4` on. -/
def owS (k : ℕ) : CellTallies nD τ sig Unit := owR c k + owL c (k - 4)
theorem above_owS (k : ℕ) : Above 2 (owS c k) := above_add (above_owR c k) (above_owL c (k - 4))

theorem owY_succ (k : Fin 12) : owY c k.val = owY c (k.val + 1) + tY c k := by
  unfold owY; exact sum_finFrom_succ k.isLt (tY c)
theorem owR_succ (k : Fin 12) : owR c k.val = owR c (k.val + 1) + tR c k := by
  unfold owR; exact sum_finFrom_succ k.isLt (tR c)
theorem owL_succ (k : Fin 8) : owL c k.val = owL c (k.val + 1) + tL c k := by
  unfold owL; exact sum_finFrom_succ k.isLt (tL c)

/-- The debts of turn `k`, the send to the right of chunk `k` apart. -/
theorem owS_right (k : Fin 12) : owS c k.val = owR c (k.val + 1) + owL c (k.val - 4) + tR c k := by
  unfold owS; rw [owR_succ, add_right_comm]

theorem core_eq (k : Fin 12) : core (F := F) c k = (do waitC (sem (yr k)) (xS c (kO k) (kS k)) (cS k); sumStep c k; sendR c k) := rfl

/-- Chunk `k` awaited, summed, stored and sent to the right; the half a send to the left needs is kept. -/
theorem wp_core (k : Fin 12) :
    iprop(ctx m ρ K ∗ coreRes m ρ c k ∗ ow c (owS c k.val))
      ⊢ WP c (core (F := F) c k) (fun _ => iprop(coreOut m ρ c k ∗ late (leftHalf m ρ c) k ∗ ow c (owR c (k.val + 1) + owL c (k.val - 4)))) := by
  rw [core_eq]
  unfold coreRes
  have hw := wp_waitC m ρ K c (yr k) (xS c (kO k) (kS k)) (cS k) rfl (n := 2) (O := owS c k.val) (by exact (by decide : 2 ≤ 2)) (above_owS c k.val)
  have hs := wp_sum m ρ c k
  have hr := wp_sendO m ρ K c (right c) (kO k) (flO k) (kS k) (kS k) (off_right c k) (rs k) (rr k) (rShare k) rfl (by unfold pay; rw [left_right])
    (owR c (k.val + 1) + owL c (k.val - 4))
  rw [show pay m ρ c (yr k) = landC m ρ c k from rfl] at hw
  unfold WP at hw hs hr ⊢
  rw [wp_bind]
  iintro ⟨#Hctx, ⟨Hat, Hc, Hx, Ho, Ht1, Ht2, Hd⟩, HO⟩
  iapply (wp_wand frame (wpE (defs₀ (F := F)) 𝒱₀ (c : Thread nD τ) none) Set.univ (p := waitC (F := F) (sem (yr k)) (xS c (kO k) (kS k)) (cS k))) $$ [Hat Hc HO]
  · iapply hw
    isplitr; · iexact Hctx
    isplitl [Hc]; · iexact Hc
    isplitl [Hat]; · iexact Hat
    iexact HO
  iintro %a ⟨Hland, Hat, HO⟩
  rw [wp_bind]
  iapply (wp_wand frame (wpE (defs₀ (F := F)) 𝒱₀ (c : Thread nD τ) none) Set.univ (p := sumStep (F := F) c k)) $$ [Hland Hx Ho]
  · iapply hs
    isplitl [Hland]; · iexact Hland
    isplitl [Hx]; · iexact Hx
    iexact Ho
  iintro %b ⟨Hcc, Hx, Ho⟩
  ihave Ho' := (Entails.of_eq (split_own m ρ c k)) $$ Ho
  icases Ho' with ⟨Ho, Hl⟩
  unfold sendR
  iapply (wp_wand frame (wpE (defs₀ (F := F)) 𝒱₀ (c : Thread nD τ) none) Set.univ) $$ [Ho Hd Ht1 Ht2 HO]
  · iapply hr
    isplitr; · iexact Hctx
    isplitl [Ho]; · iexact Ho
    isplitl [Hd]; · iexact Hd
    isplitl [Ht1]; · iexact Ht1
    isplitl [Ht2]; · iexact Ht2
    rw [owS_right]; iexact HO
  iintro %d ⟨Hc, HO⟩
  unfold coreOut
  isplitl [Hat Hcc Hx Hc]
  · isplitl [Hat]; · iexact Hat
    isplitl [Hcc]; · iexact Hcc
    isplitl [Hx]; · iexact Hx
    iexact Hc
  isplitl [Hl]; · iexact Hl
  iexact HO

/-- The send to the left of chunk `k + 4`. -/
theorem wp_sendL (k : Fin 8) (O : CellTallies nD τ sig Unit) :
    iprop(ctx m ρ K ∗ leftHalf m ρ c k ∗ leftRes c k ∗ ow c (O + tL c k))
      ⊢ WP c (sendL (F := F) c k) (fun _ => iprop(cred (tallyAt (cell c (ls k)) () N) ∗ ow c O)) := by
  have hr := wp_sendO m ρ K c (left c) (kO (up k)) (frO k) (kS (up k)) (kS (up k)) (off_left c k) (ls k) (lr k) fullShare.right rfl
    (by unfold pay; rw [right_left]) O
  unfold leftHalf leftRes sendL
  iintro ⟨#Hctx, Ho, ⟨Ht1, Ht2, Hd⟩, HO⟩
  iapply hr
  isplitr; · iexact Hctx
  isplitl [Ho]; · iexact Ho
  isplitl [Hd]; · iexact Hd
  isplitl [Ht1]; · iexact Ht1
  isplitl [Ht2]; · iexact Ht2
  iexact HO

/-- A turn of the stage loop. -/
theorem wp_stage (k : Fin 12) :
    iprop(ctx m ρ K ∗ (coreRes m ρ c k ∗ late (leftRes c) k) ∗ ow c (owS c k.val))
      ⊢ WP c (stage (F := F) c k)
        (fun _ => iprop((coreOut m ρ c k ∗ late (fun k => cred (tallyAt (cell c (ls k)) () N)) k) ∗ ow c (owS c (k.val + 1)))) := by
  have hc := wp_core m ρ K c k
  unfold stage
  unfold WP at hc ⊢
  rw [wp_bind]
  by_cases h : 4 ≤ k.val
  · have hl := wp_sendL m ρ K c ⟨k.val - 4, by omega⟩ (owS c (k.val + 1))
    have e : owR c (k.val + 1) + owL c (k.val - 4) = owS c (k.val + 1) + tL c ⟨k.val - 4, by omega⟩ := by
      unfold owS
      rw [show k.val + 1 - 4 = (k.val - 4) + 1 by omega, show owL c (k.val - 4) = _ from owL_succ c ⟨k.val - 4, by omega⟩, add_assoc]
    unfold WP at hl
    rw [e] at hc
    simp only [dif_pos h, late_of_le _ h] at hc ⊢
    iintro ⟨#Hctx, ⟨HA, HL⟩, HO⟩
    iapply (wp_wand frame (wpE (defs₀ (F := F)) 𝒱₀ (c : Thread nD τ) none) Set.univ (p := core (F := F) c k)) $$ [HA HO]
    · iapply hc
      isplitr; · iexact Hctx
      isplitl [HA]; · iexact HA
      iexact HO
    iintro %a ⟨HB, Hh, HO⟩
    iapply (wp_wand frame (wpE (defs₀ (F := F)) 𝒱₀ (c : Thread nD τ) none) Set.univ) $$ [Hh HL HO]
    · iapply hl
      isplitr; · iexact Hctx
      isplitl [Hh]; · iexact Hh
      isplitl [HL]; · iexact HL
      iexact HO
    iintro %b ⟨Hc, HO⟩
    isplitl [HB Hc]
    · isplitl [HB]; · iexact HB
      iexact Hc
    iexact HO
  · have e : owR c (k.val + 1) + owL c (k.val - 4) = owS c (k.val + 1) := by
      unfold owS; rw [show k.val + 1 - 4 = k.val - 4 by omega]
    rw [e] at hc
    simp only [dif_neg h, late_of_lt _ h, Prog.pure_eq_ret, wp_ret] at hc ⊢
    iintro ⟨#Hctx, ⟨HA, HL⟩, HO⟩
    iapply (wp_wand frame (wpE (defs₀ (F := F)) 𝒱₀ (c : Thread nD τ) none) Set.univ (p := core (F := F) c k)) $$ [HA HO]
    · iapply hc
      isplitr; · iexact Hctx
      isplitl [HA]; · iexact HA
      iexact HO
    iintro %a ⟨HB, Hh, HO⟩
    imodintro
    isplitl [HB Hh]
    · isplitl [HB]; · iexact HB
      iexact Hh
    iexact HO

end Cert.KernelIdeal.Work
-- ==== Proof.BodyParts.lean ====
/-
# The parts of the body

The handshake on the barrier, and each loop of the body: what it uses up and what it leaves.
-/
module

public import proofs.«01_k».proof.Proof.Loops

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ) (c : Dev nD)

/-! ## The handshake -/

/-- What the handshake needs: the place in the own barrier cell, the credit of its three units, the three duties, and what
    they hand over. -/
def barsPre : sProp 𝕄 :=
  iprop(atPos ER (barCell c) 0 ∅ 0 ∗ cred (tallyAt (barCell c) () 3)
    ∗ dutyTok ER (barCell (yn c)) 0 0 ∗ dutyTok ER (barCell (right c)) 0 1 ∗ dutyTok ER (barCell (left c)) 0 2
    ∗ giveY c ∗ giveR c ∗ giveL c)
/-- What it leaves: the partner's landing chunks, and the chunks of both ring neighbours that `c` writes. -/
def barsPost : sProp 𝕄 :=
  iprop(atPos ER (barCell c) (0 + 1) ∅ 0 ∗ giveY (yn c) ∗ giveR (left c) ∗ giveL (right c))

/-- A signal to the barrier of `c'`, paying duty `d` there. -/
theorem wp_bar (c' : Dev nD) (d : Fin 3) (O : CellTallies nD τ sig Unit) :
    iprop(ctx m ρ K ∗ dutyTok ER (barCell c') 0 d ∗ barPay c' d ∗ ow c (O + tallyAt (barCell c') () 1))
      ⊢ WP c (semSignalWord c' barS 1#32 : Prg F PUnit) (fun _ => ow c O) := by
  unfold ow
  simp only [semSignalWord, Prog.lift]
  iintro ⟨#Hctx, Ht, Hp, ⟨%W, HO⟩⟩
  iapply (Rounds.wp_signal 𝒱₀ ER (Rd m ρ) (c : Thread nD τ) none (dst := (c' : Thread nD τ)) (κ := K (c', none))
      (d := d) (by rw [duties_bar]; exact Finset.mem_univ _) ((amount_bar m ρ c' d).trans (by decide)) () O rfl) $$ [HO Ht Hp]
  · isplitr; · iapply (ctx_inv m ρ K (c', none)); iexact Hctx
    isplitl [HO]; · iexact HO
    isplitl [Ht]; · iexact Ht
    isplitl [Hp]; · rw [payload_bar]; iexact Hp
    iapply (ctx_reached m ρ K (c', none)); iexact Hctx
  iintro HO
  rw [wp_ret]; imodintro
  iexists W; iexact HO

/-- The wait for three on the own barrier, the transfers still owed. -/
theorem wp_barWait :
    iprop(ctx m ρ K ∗ atPos ER (barCell c) 0 ∅ 0 ∗ cred (tallyAt (barCell c) () 3) ∗ ow c (owT c))
      ⊢ WP c (semWaitWord barS 3#32 : Prg F PUnit) (fun _ => iprop(barsPost c ∗ ow c (owT c))) := by
  unfold ow
  simp only [semWaitWord, Prog.lift]
  iintro ⟨#Hctx, Hat, Hc, ⟨%W, HO⟩⟩
  iapply (Rounds.wp_wait_rest_token 𝒱₀ ER (Rd m ρ) (c : Thread nD τ) none (κ := K (c, none))
      (wpE_semWait_eq 𝒱₀ (c : Thread nD τ) none Set.univ) (Set.mem_univ _) () (O := owT c) (W := W) (R := 0) (m := 0) (T := ∅)
      (by rw [expect_bar]; decide)) $$ [Hc HO Hat]
  · isplitr; · iapply (ctx_inv m ρ K (c, none)); iexact Hctx
    isplitl [Hc]; · iexact Hc
    isplitl [HO]; · iexact HO
    isplitr
    · iapply (mayWait (F := F) (n := 1) c (.reg barS) (le_of_eq rfl) (above_owT c)); iapply (@ctx_lev F _ m ρ K); iexact Hctx
    iexact Hat
  iintro ⟨HO, Hat, -, Hpay⟩
  rw [wp_ret]; imodintro
  unfold barsPost
  isplitl [Hat Hpay]
  · isplitl [Hat]; · iexact Hat
    iapply (Entails.of_eq (rest_bar m ρ c)); iexact Hpay
  iexists _; iexact HO

/-- The handshake. -/
theorem wp_bars : iprop(ctx m ρ K ∗ barsPre c ∗ ow c (O₀ c)) ⊢ WP c (bars (F := F) c) (fun _ => iprop(barsPost c ∗ ow c (owT c))) := by
  have h1 := wp_bar m ρ K c (yn c) 0 (owT c + tallyAt (barCell (left c)) () 1 + tallyAt (barCell (right c)) () 1)
  have h2 := wp_bar m ρ K c (right c) 1 (owT c + tallyAt (barCell (left c)) () 1)
  have h3 := wp_bar m ρ K c (left c) 2 (owT c)
  have h4 := wp_barWait m ρ K c
  rw [show barPay (F := F) (yn c) 0 = giveY c by unfold barPay; rw [yn_yn]] at h1
  rw [show barPay (F := F) (right c) 1 = giveR c by unfold barPay; rw [left_right]] at h2
  rw [show barPay (F := F) (left c) 2 = giveL c by unfold barPay; rw [right_left]] at h3
  unfold bars barsPre O₀
  unfold WP at h1 h2 h3 h4 ⊢
  rw [wp_bind]
  iintro ⟨#Hctx, ⟨Hat, Hc, Ht1, Ht2, Ht3, HY, HR, HL⟩, HO⟩
  iapply (wp_wand frame (wpE (defs₀ (F := F)) 𝒱₀ (c : Thread nD τ) none) Set.univ) $$ [Ht1 HY HO]
  · iapply h1
    isplitr; · iexact Hctx
    isplitl [Ht1]; · iexact Ht1
    isplitl [HY]; · iexact HY
    iexact HO
  iintro %a HO
  rw [wp_bind]
  iapply (wp_wand frame (wpE (defs₀ (F := F)) 𝒱₀ (c : Thread nD τ) none) Set.univ) $$ [Ht2 HR HO]
  · iapply h2
    isplitr; · iexact Hctx
    isplitl [Ht2]; · iexact Ht2
    isplitl [HR]; · iexact HR
    iexact HO
  iintro %a HO
  rw [wp_bind]
  iapply (wp_wand frame (wpE (defs₀ (F := F)) 𝒱₀ (c : Thread nD τ) none) Set.univ) $$ [Ht3 HL HO]
  · iapply h3
    isplitr; · iexact Hctx
    isplitl [Ht3]; · iexact Ht3
    isplitl [HL]; · iexact HL
    iexact HO
  iintro %a HO
  iapply h4
  isplitr; · iexact Hctx
  isplitl [Hat]; · iexact Hat
  isplitl [Hc]; · iexact Hc
  iexact HO

/-! ## The waits that end the body -/

/-- What a wait of the end needs, and what it leaves. -/
def waitPre (j : CK) : sProp 𝕄 := iprop(cred (tallyAt (cell c j) () N) ∗ atPos ER (cell c j) 0 ∅ 0)
def waitPost (j : CK) : sProp 𝕄 := iprop(pay m ρ c j ∗ atPos ER (cell c j) (0 + 1) ∅ 0)

theorem wp_wait0 (j : CK) (src dst : Memref sig .tc .vmem S16x512 .f32) (hN : dst.view.dmaCredit = N) :
    iprop(ctx m ρ K ∗ waitPre c j ∗ ow c 0) ⊢ WP c (waitC (F := F) (sem j) src dst) (fun _ => iprop(waitPost m ρ c j ∗ ow c 0)) := by
  have h := wp_waitC m ρ K c j src dst hN (le_refl (lvQ (some j))) (above_zero _)
  unfold waitPre waitPost
  unfold WP at h ⊢
  iintro ⟨#Hctx, ⟨Hc, Hat⟩, HO⟩
  iapply (wp_wand frame (wpE (defs₀ (F := F)) 𝒱₀ (c : Thread nD τ) none) Set.univ) $$ [Hc Hat HO]
  · iapply h
    isplitr; · iexact Hctx
    isplitl [Hc]; · iexact Hc
    isplitl [Hat]; · iexact Hat
    iexact HO
  iintro %a ⟨Hp, Hat, HO⟩
  isplitl [Hp Hat]
  · isplitl [Hp]; · iexact Hp
    iexact Hat
  iexact HO

/-- The waits on the sends of chunk `k`. -/
theorem wp_waitS (k : Fin 12) :
    iprop(ctx m ρ K ∗ (waitPre c (rs k) ∗ late (fun k => waitPre c (ls k)) k) ∗ ow c 0)
      ⊢ WP c (waitS (F := F) c k) (fun _ => iprop((waitPost m ρ c (rs k) ∗ late (fun k => waitPost m ρ c (ls k)) k) ∗ ow c 0)) := by
  have h1 := wp_wait0 m ρ K c (rs k) (oS c (kO k) (kS k)) (oS c (kO k) (kS k)) rfl
  unfold waitS waitRS
  unfold WP at h1 ⊢
  rw [wp_bind]
  by_cases h : 4 ≤ k.val
  · have h2 := wp_wait0 m ρ K c (ls ⟨k.val - 4, by omega⟩) (oS c (kO (up ⟨k.val - 4, by omega⟩)) (kS (up ⟨k.val - 4, by omega⟩)))
      (oS c (kO (up ⟨k.val - 4, by omega⟩)) (kS (up ⟨k.val - 4, by omega⟩))) rfl
    unfold WP at h2
    simp only [dif_pos h, late_of_le _ h]
    iintro ⟨#Hctx, ⟨HA, HL⟩, HO⟩
    iapply (wp_wand frame (wpE (defs₀ (F := F)) 𝒱₀ (c : Thread nD τ) none) Set.univ) $$ [HA HO]
    · iapply h1
      isplitr; · iexact Hctx
      isplitl [HA]; · iexact HA
      iexact HO
    iintro %a ⟨HB, HO⟩
    unfold waitLS
    iapply (wp_wand frame (wpE (defs₀ (F := F)) 𝒱₀ (c : Thread nD τ) none) Set.univ) $$ [HL HO]
    · iapply h2
      isplitr; · iexact Hctx
      isplitl [HL]; · iexact HL
      iexact HO
    iintro %a ⟨HL, HO⟩
    isplitl [HB HL]
    · isplitl [HB]; · iexact HB
      iexact HL
    iexact HO
  · simp only [dif_neg h, late_of_lt _ h, Prog.pure_eq_ret, wp_ret]
    iintro ⟨#Hctx, ⟨HA, HL⟩, HO⟩
    iapply (wp_wand frame (wpE (defs₀ (F := F)) 𝒱₀ (c : Thread nD τ) none) Set.univ) $$ [HA HO]
    · iapply h1
      isplitr; · iexact Hctx
      isplitl [HA]; · iexact HA
      iexact HO
    iintro %a ⟨HB, HO⟩
    imodintro
    isplitl [HB HL]
    · isplitl [HB]; · iexact HB
      iexact HL
    iexact HO

/-! ## The body -/

/-- What the send loop uses up at chunk `k`. -/
def sendYPre (k : Fin 12) : sProp 𝕄 :=
  iprop(xC m ρ c (kO k) (kS k) fullShare.left ∗ (∃ f, cC (yn c) k f) ∗ dutyTok ER (cell c (ys k)) 0 0 ∗ dutyTok ER (cell (yn c) (yr k)) 0 0)

theorem wp_sendY' (k : Fin 12) :
    iprop(ctx m ρ K ∗ sendYPre m ρ c k ∗ ow c ((fun n => owR c 0 + owL c 0 + owY c n) k.val))
      ⊢ WP c (sendY (F := F) c k) (fun _ => iprop(cred (tallyAt (cell c (ys k)) () N) ∗ ow c ((fun n => owR c 0 + owL c 0 + owY c n) (k.val + 1)))) := by
  have h := wp_sendY m ρ K c k (owR c 0 + owL c 0 + owY c (k.val + 1))
  rw [add_assoc, ← owY_succ] at h
  unfold sendYPre
  iintro ⟨#Hctx, ⟨Hx, Hd, Ht1, Ht2⟩, HO⟩
  iapply h
  isplitr; · iexact Hctx
  isplitl [Hx]; · iexact Hx
  isplitl [Hd]; · iexact Hd
  isplitl [Ht1]; · iexact Ht1
  isplitl [Ht2]; · iexact Ht2
  iexact HO

theorem wp_sends : iprop(ctx m ρ K ∗ bigSep Finset.univ (sendYPre m ρ c) ∗ ow c (owT c))
    ⊢ WP c (seqN 12 (sendY (F := F) c)) (fun _ => iprop((bigSep Finset.univ fun k => cred (tallyAt (cell c (ys k)) () N)) ∗ ow c (owS c 0))) := by
  have h := wp_loop c (X := ctx m ρ K) (sendY (F := F) c) (sendYPre m ρ c) (fun k => cred (tallyAt (cell c (ys k)) () N))
    (fun n => owR c 0 + owL c 0 + owY c n) (wp_sendY' m ρ K c)
  have e : owR c 0 + owL c 0 + owY c 12 = owS c 0 := by
    unfold owS; rw [show owY c 12 = 0 from sum_finFrom_self (tY c), add_zero]
  simp only [e] at h
  exact h

theorem wp_stages : iprop(ctx m ρ K ∗ (bigSep Finset.univ fun k => iprop(coreRes m ρ c k ∗ late (leftRes c) k)) ∗ ow c (owS c 0))
    ⊢ WP c (seqN 12 (stage (F := F) c)) (fun _ => iprop((bigSep Finset.univ fun k => iprop(coreOut m ρ c k ∗ late (fun k => cred (tallyAt (cell c (ls k)) () N)) k)) ∗ ow c 0)) := by
  have h := wp_loop c (X := ctx m ρ K) (stage (F := F) c) (fun k => iprop(coreRes m ρ c k ∗ late (leftRes c) k))
    (fun k => iprop(coreOut m ρ c k ∗ late (fun k => cred (tallyAt (cell c (ls k)) () N)) k)) (owS c) (wp_stage m ρ K c)
  have e : owS c 12 = 0 := by
    unfold owS; rw [show owR c 12 = 0 from sum_finFrom_self (tR c), show owL c (12 - 4) = 0 from sum_finFrom_self (tL c), add_zero]
  rw [e] at h
  exact h

theorem wp_waits {n : ℕ} (j : Fin n → CK) (f : Fin n → Prg F PUnit)
    (h : ∀ k, iprop(ctx m ρ K ∗ waitPre c (j k) ∗ ow c 0) ⊢ WP c (f k) (fun _ => iprop(waitPost m ρ c (j k) ∗ ow c 0))) :
    iprop(ctx m ρ K ∗ (bigSep Finset.univ fun k => waitPre c (j k)) ∗ ow c 0)
      ⊢ WP c (seqN n f) (fun _ => iprop((bigSep Finset.univ fun k => waitPost m ρ c (j k)) ∗ ow c 0)) :=
  wp_loop c (X := ctx m ρ K) f (fun k => waitPre c (j k)) (fun k => waitPost m ρ c (j k)) (fun _ => 0) h

theorem wp_waitSs :
    iprop(ctx m ρ K ∗ (bigSep Finset.univ fun k => iprop(waitPre c (rs k) ∗ late (fun k => waitPre c (ls k)) k)) ∗ ow c 0)
      ⊢ WP c (seqN 12 (waitS (F := F) c)) (fun _ => iprop((bigSep Finset.univ fun k => iprop(waitPost m ρ c (rs k) ∗ late (fun k => waitPost m ρ c (ls k)) k)) ∗ ow c 0)) :=
  wp_loop c (X := ctx m ρ K) (waitS (F := F) c) _ _ (fun _ => 0) (wp_waitS m ρ K c)

end Cert.KernelIdeal.Work
-- ==== Proof.BodyRun.lean ====
/-
# The body of the kernel

The parts of the body run one after the other, from what a device holds at the start to what it holds when its last wait
is over.
-/
module

public import proofs.«01_k».proof.Proof.BodyParts

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ) (c : Dev nD)

/-! ## Resources by cell -/

omit [FloatOps F] in
/-- One resource per transfer cell, array by array. -/
theorem big_CK (Φ : CK → sProp 𝕄) : (bigSep Finset.univ Φ : sProp 𝕄)
    = iprop((bigSep Finset.univ fun k => Φ (ys k)) ∗ (bigSep Finset.univ fun k => Φ (yr k)) ∗ (bigSep Finset.univ fun k => Φ (rs k))
      ∗ (bigSep Finset.univ fun k => Φ (rr k)) ∗ (bigSep Finset.univ fun k => Φ (ls k)) ∗ (bigSep Finset.univ fun k => Φ (lr k))) := by
  rw [bigSep_univ_sum, bigSep_univ_sum, bigSep_univ_sum, bigSep_univ_sum, bigSep_univ_sum]
  rfl

/-- The device whose cell `j` device `c` pays. -/
def payee : CK → Dev nD
  | ys _ => c | rs _ => c | ls _ => c
  | yr _ => yn c | rr _ => right c | lr _ => left c

/-- The places of a device in its transfer cells, at round `R`. -/
def places (R : ℕ) : sProp 𝕄 := bigSep Finset.univ fun j : CK => atPos ER (cell c j) R ∅ 0
/-- The duties a device pays on transfer cells. -/
def duties : sProp 𝕄 := bigSep Finset.univ fun j : CK => dutyTok ER (cell (payee c j) j) 0 0
/-- The credits of the arrivals on a device's cells. -/
def arrivals : sProp 𝕄 :=
  iprop((bigSep Finset.univ fun k => cred (tallyAt (cell c (yr k)) () N)) ∗ (bigSep Finset.univ fun k => cred (tallyAt (cell c (rr k)) () N))
    ∗ (bigSep Finset.univ fun k => cred (tallyAt (cell c (lr k)) () N)))
/-- The own chunks of the input at share `q`. -/
def xOwn (q : PosShare TreeShare) : sProp 𝕄 := bigSep Finset.univ fun k : Fin 12 => xC m ρ c (kO k) (kS k) q
/-- The own chunks of the result, at any contents. -/
def oOwn : sProp 𝕄 := bigSep Finset.univ fun k : Fin 12 => iprop(∃ f, oC (F := F) c (kO k) (kS k) fullShare f)

/-- What the body starts from. -/
def runPre : sProp 𝕄 :=
  iprop(barsPre c ∗ xOwn m ρ c fullShare.left ∗ xOwn m ρ c fullShare.right ∗ oOwn c ∗ places c 0 ∗ duties c ∗ arrivals c)
/-- What it ends with: all places one round on, its buffers back, the result's chunks summed. -/
def runPost : sProp 𝕄 :=
  iprop(atPos ER (barCell c) (0 + 1) ∅ 0 ∗ places c (0 + 1) ∗ xOwn m ρ c fullShare.left ∗ xOwn m ρ c fullShare.right ∗ giveY c
    ∗ (bigSep Finset.univ fun k : Fin 12 => oC c (kO k) (kS k) fullShare (sumAt m ρ c))
    ∗ (bigSep Finset.univ fun k : Fin 12 => oC c (flO k) (kS k) fullShare (sumAt m ρ (left c)))
    ∗ (bigSep Finset.univ fun k : Fin 8 => oC c (frO k) (kS (up k)) fullShare (sumAt m ρ (right c))))

theorem sendYPre_eq : (bigSep Finset.univ (sendYPre m ρ c) : sProp 𝕄)
    = iprop(xOwn m ρ c fullShare.left ∗ giveY (yn c) ∗ (bigSep Finset.univ fun k => dutyTok ER (cell c (ys k)) 0 0)
      ∗ bigSep Finset.univ fun k => dutyTok ER (cell (yn c) (yr k)) 0 0) := by
  unfold sendYPre xOwn giveY
  simp only [bigSep_sep']

theorem stagePre_eq : (bigSep Finset.univ fun k => iprop(coreRes m ρ c k ∗ late (leftRes c) k) : sProp 𝕄)
    = iprop(((bigSep Finset.univ fun k => atPos ER (cell c (yr k)) 0 ∅ 0) ∗ (bigSep Finset.univ fun k => cred (tallyAt (cell c (yr k)) () N))
        ∗ xOwn m ρ c fullShare.right ∗ oOwn c ∗ (bigSep Finset.univ fun k => dutyTok ER (cell c (rs k)) 0 0)
        ∗ (bigSep Finset.univ fun k => dutyTok ER (cell (right c) (rr k)) 0 0) ∗ giveL (right c))
      ∗ (bigSep Finset.univ fun k => dutyTok ER (cell c (ls k)) 0 0) ∗ (bigSep Finset.univ fun k => dutyTok ER (cell (left c) (lr k)) 0 0)
        ∗ giveR (left c)) := by
  rw [bigSep_sep', show (bigSep Finset.univ fun k => late (leftRes c) k : sProp 𝕄) = bigSep Finset.univ (leftRes c) from big_late _]
  unfold coreRes leftRes xOwn oOwn giveL giveR
  simp only [bigSep_sep']

theorem stageOut_eq : (bigSep Finset.univ fun k => iprop(coreOut m ρ c k ∗ late (fun k => cred (tallyAt (cell c (ls k)) () N)) k) : sProp 𝕄)
    = iprop(((bigSep Finset.univ fun k => atPos ER (cell c (yr k)) (0 + 1) ∅ 0) ∗ giveY c ∗ xOwn m ρ c fullShare.right
        ∗ (bigSep Finset.univ fun k => cred (tallyAt (cell c (rs k)) () N)))
      ∗ bigSep Finset.univ fun k => cred (tallyAt (cell c (ls k)) () N)) := by
  rw [bigSep_sep', show (bigSep Finset.univ fun k => late (fun k => cred (tallyAt (cell c (ls k)) () N)) k : sProp 𝕄) = _ from big_late _]
  unfold coreOut xOwn giveY
  simp only [bigSep_sep']

omit [FloatOps F] in
theorem waitPre_eq {n : ℕ} (j : Fin n → CK) : (bigSep Finset.univ fun k => waitPre c (j k) : sProp 𝕄)
    = iprop((bigSep Finset.univ fun k => cred (tallyAt (cell c (j k)) () N)) ∗ bigSep Finset.univ fun k => atPos ER (cell c (j k)) 0 ∅ 0) := by
  unfold waitPre
  simp only [bigSep_sep']
theorem waitPost_eq {n : ℕ} (j : Fin n → CK) : (bigSep Finset.univ fun k => waitPost m ρ c (j k) : sProp 𝕄)
    = iprop((bigSep Finset.univ fun k => pay m ρ c (j k)) ∗ bigSep Finset.univ fun k => atPos ER (cell c (j k)) (0 + 1) ∅ 0) := by
  unfold waitPost
  simp only [bigSep_sep']

omit [FloatOps F] in
theorem waitSPre_eq : (bigSep Finset.univ fun k => iprop(waitPre c (rs k) ∗ late (fun k => waitPre c (ls k)) k) : sProp 𝕄)
    = iprop((bigSep Finset.univ fun k => waitPre c (rs k)) ∗ bigSep Finset.univ fun k => waitPre c (ls k)) := by
  rw [bigSep_sep', show (bigSep Finset.univ fun k => late (fun k => waitPre c (ls k)) k : sProp 𝕄) = _ from big_late _]
theorem waitSPost_eq : (bigSep Finset.univ fun k => iprop(waitPost m ρ c (rs k) ∗ late (fun k => waitPost m ρ c (ls k)) k) : sProp 𝕄)
    = iprop((bigSep Finset.univ fun k => waitPost m ρ c (rs k)) ∗ bigSep Finset.univ fun k => waitPost m ρ c (ls k)) := by
  rw [bigSep_sep', show (bigSep Finset.univ fun k => late (fun k => waitPost m ρ c (ls k)) k : sProp 𝕄) = _ from big_late _]

/-- The own finished chunks, back from both sends. -/
theorem own_back : (iprop((bigSep Finset.univ fun k => pay m ρ c (rs k)) ∗ bigSep Finset.univ fun k => pay m ρ c (ls k)) : sProp 𝕄)
    = bigSep Finset.univ fun k : Fin 12 => oC c (kO k) (kS k) fullShare (sumAt m ρ c) := by
  have e : (bigSep Finset.univ fun k => pay m ρ c (ls k) : sProp 𝕄) = bigSep Finset.univ fun k => late (leftHalf m ρ c) k := (big_late (leftHalf m ρ c)).symm
  rw [e, ← bigSep_sep']
  exact congrArg (bigSep Finset.univ) (funext fun k => (split_own m ρ c k).symm)

/-! ## The run -/

theorem wp_body : iprop(ctx m ρ K ∗ runPre m ρ c ∗ ow c (O₀ c)) ⊢ WP c (bodyD (F := F) c) (fun _ => iprop(runPost m ρ c ∗ ow c 0)) := by
  have h1 := wp_bars m ρ K c
  have h2 := wp_sends m ρ K c
  have h3 := wp_stages m ρ K c
  have h4 := wp_waits m ρ K c rr (waitRR (F := F) c) fun k => wp_wait0 m ρ K c (rr k) (oS c (flO k) (kS k)) (oS c (flO k) (kS k)) rfl
  have h5 := wp_waits m ρ K c lr (waitLR (F := F) c) fun k => wp_wait0 m ρ K c (lr k) (oS c (frO k) (kS (up k))) (oS c (frO k) (kS (up k))) rfl
  have h6 := wp_waits m ρ K c ys (waitYS (F := F) c) fun k => wp_wait0 m ρ K c (ys k) (cS k) (xS c (kO k) (kS k)) rfl
  have h7 := wp_waitSs m ρ K c
  rw [sendYPre_eq] at h2
  rw [stagePre_eq, stageOut_eq] at h3
  rw [waitPre_eq, waitPost_eq] at h4 h5 h6
  rw [waitSPre_eq, waitSPost_eq, waitPre_eq, waitPre_eq, waitPost_eq, waitPost_eq] at h7
  unfold runPre places duties arrivals
  rw [big_CK, big_CK]
  unfold bodyD
  unfold WP barsPost at h1
  unfold WP at h2 h3 h4 h5 h6 h7 ⊢
  rw [wp_bind]
  iintro ⟨#Hctx, ⟨Hb, HxL, HxR, Ho, ⟨Hays, Hayr, Hars, Harr, Hals, Halr⟩, ⟨Htys, Htyr, Htrs, Htrr, Htls, Htlr⟩, ⟨Hcyr, Hcrr, Hclr⟩⟩, HO⟩
  iapply (wp_wand frame (wpE (defs₀ (F := F)) 𝒱₀ (c : Thread nD τ) none) Set.univ) $$ [Hb HO]
  · iapply h1
    isplitr; · iexact Hctx
    isplitl [Hb]; · iexact Hb
    iexact HO
  iintro %a ⟨⟨HatB, HY, HR, HL⟩, HO⟩
  rw [wp_bind]
  iapply (wp_wand frame (wpE (defs₀ (F := F)) 𝒱₀ (c : Thread nD τ) none) Set.univ) $$ [HxL HY Htys Htyr HO]
  · iapply h2
    isplitr; · iexact Hctx
    isplitl [HxL HY Htys Htyr]
    · isplitl [HxL]; · iexact HxL
      isplitl [HY]; · iexact HY
      isplitl [Htys]; · iexact Htys
      iexact Htyr
    iexact HO
  iintro %a ⟨Hcys, HO⟩
  rw [wp_bind]
  iapply (wp_wand frame (wpE (defs₀ (F := F)) 𝒱₀ (c : Thread nD τ) none) Set.univ) $$ [Hayr Hcyr HxR Ho Htrs Htrr HL Htls Htlr HR HO]
  · iapply h3
    isplitr; · iexact Hctx
    isplitl [Hayr Hcyr HxR Ho Htrs Htrr HL Htls Htlr HR]
    · isplitl [Hayr Hcyr HxR Ho Htrs Htrr HL]
      · isplitl [Hayr]; · iexact Hayr
        isplitl [Hcyr]; · iexact Hcyr
        isplitl [HxR]; · iexact HxR
        isplitl [Ho]; · iexact Ho
        isplitl [Htrs]; · iexact Htrs
        isplitl [Htrr]; · iexact Htrr
        iexact HL
      isplitl [Htls]; · iexact Htls
      isplitl [Htlr]; · iexact Htlr
      iexact HR
    iexact HO
  iintro %a ⟨⟨⟨Hayr, HY, HxR, Hcrs⟩, Hcls⟩, HO⟩
  rw [wp_bind]
  iapply (wp_wand frame (wpE (defs₀ (F := F)) 𝒱₀ (c : Thread nD τ) none) Set.univ) $$ [Hcrr Harr HO]
  · iapply h4
    isplitr; · iexact Hctx
    isplitl [Hcrr Harr]
    · isplitl [Hcrr]; · iexact Hcrr
      iexact Harr
    iexact HO
  iintro %a ⟨⟨HoR, Harr⟩, HO⟩
  rw [wp_bind]
  iapply (wp_wand frame (wpE (defs₀ (F := F)) 𝒱₀ (c : Thread nD τ) none) Set.univ) $$ [Hclr Halr HO]
  · iapply h5
    isplitr; · iexact Hctx
    isplitl [Hclr Halr]
    · isplitl [Hclr]; · iexact Hclr
      iexact Halr
    iexact HO
  iintro %a ⟨⟨HoL, Halr⟩, HO⟩
  rw [wp_bind]
  iapply (wp_wand frame (wpE (defs₀ (F := F)) 𝒱₀ (c : Thread nD τ) none) Set.univ) $$ [Hcys Hays HO]
  · iapply h6
    isplitr; · iexact Hctx
    isplitl [Hcys Hays]
    · isplitl [Hcys]; · iexact Hcys
      iexact Hays
    iexact HO
  iintro %a ⟨⟨HxL, Hays⟩, HO⟩
  iapply (wp_wand frame (wpE (defs₀ (F := F)) 𝒱₀ (c : Thread nD τ) none) Set.univ) $$ [Hcrs Hars Hcls Hals HO]
  · iapply h7
    isplitr; · iexact Hctx
    isplitl [Hcrs Hars Hcls Hals]
    · isplitl [Hcrs Hars]
      · isplitl [Hcrs]; · iexact Hcrs
        iexact Hars
      isplitl [Hcls]; · iexact Hcls
      iexact Hals
    iexact HO
  iintro %a ⟨⟨⟨Hrs, Hars⟩, ⟨Hls, Hals⟩⟩, HO⟩
  isplitr [HO]
  · unfold runPost places
    rw [big_CK, ← own_back]
    isplitl [HatB]; · iexact HatB
    isplitl [Hays Hayr Hars Harr Hals Halr]
    · isplitl [Hays]; · iexact Hays
      isplitl [Hayr]; · iexact Hayr
      isplitl [Hars]; · iexact Hars
      isplitl [Harr]; · iexact Harr
      isplitl [Hals]; · iexact Hals
      iexact Halr
    isplitl [HxL]; · unfold xOwn; iexact HxL
    isplitl [HxR]; · iexact HxR
    isplitl [HY]; · iexact HY
    isplitl [Hrs Hls]
    · isplitl [Hrs]; · iexact Hrs
      iexact Hls
    isplitl [HoR]; · iexact HoR
    iexact HoL
  iexact HO

end Cert.KernelIdeal.Work
-- ==== Proof.Buffers.lean ====
/-
# Whole buffers and their chunks

The input buffer, the result buffer and the landing buffer of a device split into the chunks the body works on, and the
chunks join again. The result buffer then holds, row by row, the sum of the device the row's chunk was computed on and
that device's partner.
-/
module

public import proofs.«01_k».proof.Proof.BodyRun

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ) (c : Dev nD)

/-! ## The result -/

/-- Who computes the chunk at ring offset `r`: the device itself, its left neighbour or its right neighbour. -/
def side (c : Dev nD) : Fin 8 → Dev nD := ![c, left c, c, right c, left c, c, right c, left c]

/-- The result of device `c`: each row summed on the device that computes its chunk. -/
def outAt : (cc0_stg1_0 : Ref sig .tc).ty.Contents (Elt F) := fun i =>
  sumAt m ρ (side c ⟨((i (0 : Fin 2)).val / 64 + 8 - pos c % 8) % 8, by omega⟩) i

/-- Who computes a chunk, by its origin. -/
def tSide : T → Dev nD
  | .inl _ => c | .inr (.inl _) => left c | .inr (.inr _) => right c

theorem side_tO : ∀ t : T, side c (tO t) = tSide c t
  | .inl k => by fin_cases k <;> rfl
  | .inr (.inl k) => by fin_cases k <;> rfl
  | .inr (.inr k) => by fin_cases k <;> rfl

theorem outAt_chunk (t : T) {i : S512x512.Idx} (hi : i ∈ (rowR c (tO t) (tS t)).set) :
    outAt m ρ c i = sumAt m ρ (tSide c t) i := by
  have h := mem_rowR.mp hi
  have hs := (tS t).isLt
  unfold rowOf at h
  have e : (⟨((i (0 : Fin 2)).val / 64 + 8 - pos c % 8) % 8, by omega⟩ : Fin 8) = tO t := Fin.ext (by
    have := (tO t).isLt
    simp only
    omega)
  unfold outAt
  rw [e, side_tO]

/-! ## The input buffer -/

/-- The chunks of the input the body leaves alone. -/
def xRest : sProp 𝕄 :=
  iprop((bigSep Finset.univ fun k : Fin 12 => xC m ρ c (flO k) (kS k) fullShare)
    ∗ bigSep Finset.univ fun k : Fin 8 => xC m ρ c (frO k) (kS (up k)) fullShare)

omit [FloatOps F] in
theorem xC_halves (r : Fin 8) (s : Fin 4) :
    (xC m ρ c r s fullShare : sProp 𝕄) = iprop(xC m ρ c r s fullShare.left ∗ xC m ρ c r s fullShare.right) := by
  unfold xC
  have e := pointsTo_share (nD := nD) (τ := τ) (sig := sig) (Ix := Unit) (Val := Elt F) (Name := ℕ) (U := UU) (Lvl := ℕ)
    (ℓ := (xS c r s).view.loc (c : Thread nD τ)) (I := (xS c r s).view.set) (f := xstg m ρ c)
    (q := fullShare) (q₁ := fullShare.left) (q₂ := fullShare.right) (by rw [PosShare.left_op_right]; exact Part.mem_some _)
  exact BI.Entails.antisymm e.1 e.2

omit [FloatOps F] in
theorem x_chunks : ((((c : Thread nD τ).loc cc0_stg0_0) ↦{fullShare} xstg m ρ c) : sProp 𝕄)
    = iprop((bigSep Finset.univ fun k : Fin 12 => xC m ρ c (kO k) (kS k) fullShare) ∗ xRest m ρ c) := by
  have h := pointsTo_biUnion (nD := nD) (τ := τ) (sig := sig) (Ix := Unit) (Val := Elt F) (Name := ℕ) (U := UU) (Lvl := ℕ)
    (ℓ := (c : Thread nD τ).loc cc0_stg0_0) (q := fullShare) (f := xstg m ρ c) (Finset.univ : Finset T) (fun t => (rowR c (tO t) (tS t)).set) (rows_disjoint c)
  rw [rows_cover] at h
  refine h.trans ?_
  unfold xRest
  rw [bigSep_univ_sum, bigSep_univ_sum]
  simp only [xC_eq]
  rfl

omit [FloatOps F] in
theorem x_split : ((((c : Thread nD τ).loc cc0_stg0_0) ↦{fullShare} xstg m ρ c) : sProp 𝕄)
    = iprop((xOwn m ρ c fullShare.left ∗ xOwn m ρ c fullShare.right) ∗ xRest m ρ c) := by
  rw [x_chunks]
  unfold xOwn
  rw [← bigSep_sep', show (fun k : Fin 12 => (xC m ρ c (kO k) (kS k) fullShare : sProp 𝕄)) = _ from funext fun k => xC_halves m ρ c (kO k) (kS k)]

/-! ## The result buffer -/

omit [FloatOps F] in
theorem o_chunks (g : (cc0_stg1_0 : Ref sig .tc).ty.Contents (Elt F)) : ((((c : Thread nD τ).loc cc0_stg1_0) ↦{fullShare} g) : sProp 𝕄)
    = iprop((bigSep Finset.univ fun k : Fin 12 => oC c (kO k) (kS k) fullShare g)
      ∗ (bigSep Finset.univ fun k : Fin 12 => oC c (flO k) (kS k) fullShare g)
      ∗ bigSep Finset.univ fun k : Fin 8 => oC c (frO k) (kS (up k)) fullShare g) := by
  have h := pointsTo_biUnion (nD := nD) (τ := τ) (sig := sig) (Ix := Unit) (Val := Elt F) (Name := ℕ) (U := UU) (Lvl := ℕ)
    (ℓ := (c : Thread nD τ).loc cc0_stg1_0) (q := fullShare) (f := g) (Finset.univ : Finset T) (fun t => (rowR c (tO t) (tS t)).set) (rows_disjoint c)
  rw [rows_cover] at h
  refine h.trans ?_
  rw [bigSep_univ_sum, bigSep_univ_sum]
  simp only [oC_eq]
  rfl

omit [FloatOps F] in
theorem oC_some (r : Fin 8) (s : Fin 4) (g) : (oC c r s fullShare g : sProp 𝕄) ⊢ iprop(∃ f, oC (F := F) c r s fullShare f) := by
  iintro H; iexists g; iexact H

omit [FloatOps F] in
theorem o_split (g : (cc0_stg1_0 : Ref sig .tc).ty.Contents (Elt F)) : ((((c : Thread nD τ).loc cc0_stg1_0) ↦{fullShare} g) : sProp 𝕄)
    ⊢ iprop(oOwn c ∗ giveL c ∗ giveR c) := by
  rw [o_chunks]
  unfold oOwn giveL giveR
  exact BI.sep_mono (bigSep_mono fun k _ => oC_some c _ _ g) (BI.sep_mono (bigSep_mono fun k _ => oC_some c _ _ g) (bigSep_mono fun k _ => oC_some c _ _ g))

theorem oC_out (t : T) : (oC c (tO t) (tS t) fullShare (outAt m ρ c) : sProp 𝕄) = oC c (tO t) (tS t) fullShare (sumAt m ρ (tSide c t)) := by
  rw [oC_eq, oC_eq]
  exact pointsTo_congr fun i hi => outAt_chunk m ρ c t hi

/-- The summed chunks are the result buffer holding the result. -/
theorem o_join : iprop((bigSep Finset.univ fun k : Fin 12 => oC c (kO k) (kS k) fullShare (sumAt m ρ c))
      ∗ (bigSep Finset.univ fun k : Fin 12 => oC c (flO k) (kS k) fullShare (sumAt m ρ (left c)))
      ∗ (bigSep Finset.univ fun k : Fin 8 => oC c (frO k) (kS (up k)) fullShare (sumAt m ρ (right c))))
    = ((((c : Thread nD τ).loc cc0_stg1_0) ↦{fullShare} outAt m ρ c) : sProp 𝕄) := by
  rw [o_chunks]
  have e1 : (fun k : Fin 12 => (oC c (kO k) (kS k) fullShare (outAt m ρ c) : sProp 𝕄)) = fun k => oC c (kO k) (kS k) fullShare (sumAt m ρ c) :=
    funext fun k => oC_out m ρ c (.inl k)
  have e2 : (fun k : Fin 12 => (oC c (flO k) (kS k) fullShare (outAt m ρ c) : sProp 𝕄)) = fun k => oC c (flO k) (kS k) fullShare (sumAt m ρ (left c)) :=
    funext fun k => oC_out m ρ c (.inr (.inl k))
  have e3 : (fun k : Fin 8 => (oC c (frO k) (kS (up k)) fullShare (outAt m ρ c) : sProp 𝕄)) = fun k => oC c (frO k) (kS (up k)) fullShare (sumAt m ρ (right c)) :=
    funext fun k => oC_out m ρ c (.inr (.inr k))
  rw [e1, e2, e3]

/-! ## The landing buffer -/

omit [FloatOps F] in
theorem cC_some (k : Fin 12) (g) : (cC c k g : sProp 𝕄) ⊢ iprop(∃ f, cC (F := F) c k f) := by
  iintro H; iexists g; iexact H

omit [FloatOps F] in
theorem comm_chunks (g : (cc0_scratch0 : Ref sig .tc).ty.Contents (Elt F)) :
    ((((c : Thread nD τ).loc cc0_scratch0) ↦{fullShare} g) : sProp 𝕄) = bigSep Finset.univ fun k : Fin 12 => cC c k g := by
  have h := pointsTo_biUnion (nD := nD) (τ := τ) (sig := sig) (Ix := Unit) (Val := Elt F) (Name := ℕ) (U := UU) (Lvl := ℕ)
    (ℓ := (c : Thread nD τ).loc cc0_scratch0) (q := fullShare) (f := g) (Finset.univ : Finset (Fin 12)) (fun k => (commR k).set) comm_disjoint
  rw [comm_cover] at h
  refine h.trans ?_
  simp only [cC_eq]

omit [FloatOps F] in
theorem comm_split (g : (cc0_scratch0 : Ref sig .tc).ty.Contents (Elt F)) : ((((c : Thread nD τ).loc cc0_scratch0) ↦{fullShare} g) : sProp 𝕄) ⊢ giveY c := by
  rw [comm_chunks]
  exact bigSep_mono fun k _ => cC_some c k g

omit [FloatOps F] in
include m in
theorem comm_join : (giveY c : sProp 𝕄) ⊢ iprop(∃ g, ((c : Thread nD τ).loc cc0_scratch0) ↦{fullShare} g) := by
  have h := fun fs : Fin 12 → Buf (Elt F) ((c : Thread nD τ).loc cc0_scratch0) =>
    pointsTo_biUnion_join (nD := nD) (τ := τ) (sig := sig) (Ix := Unit) (Val := Elt F) (Name := ℕ) (U := UU) (Lvl := ℕ)
      (ℓ := (c : Thread nD τ).loc cc0_scratch0) (q := fullShare) (Finset.univ : Finset (Fin 12)) (fun k => (commR k).set) fs (fs 0) comm_disjoint
  rw [comm_cover] at h
  haveI : Nonempty (Buf (Elt F) ((c : Thread nD τ).loc cc0_scratch0)) := ⟨m _⟩
  unfold giveY
  simp only [cC_eq]
  iintro H
  ihave H := (BI.bigSep_exists_pi Finset.univ (fun (k : Fin 12) (f : Buf (Elt F) ((c : Thread nD τ).loc cc0_scratch0)) =>
    (((c : Thread nD τ).loc cc0_scratch0) ↦[(commR k).set]{fullShare} f : sProp 𝕄))) $$ H
  icases H with ⟨%fs, H⟩
  ihave H := (h fs) $$ H
  icases H with ⟨%g, -, H⟩
  iexists g
  iexact H

end Cert.KernelIdeal.Work
-- ==== Proof.BodyEq.lean ====
/-
# The kernel's body is the five loops

The printed body, its parts put together, is the plain program of `Mesh.lean` (`bodyP`).
-/
module

public import proofs.«01_k».proof.Proof.Mesh

@[expose] public section

noncomputable section

namespace Cert.KernelIdeal.Work

open Cert.KernelIdeal Cert.KernelIdeal.Gen
open Idealize.ShloMosaic
open Idealize.SL.Sem

variable {F : FTy → Type} [FloatOps F]

set_option maxRecDepth 65536

/-- Ending with nothing adds nothing. -/
theorem bind_unit (p : Prg F PUnit) : (p >>= fun _ => pure PUnit.unit) = p := Prog.bind_pure p

/-- Twelve steps written out. -/
theorem seq12 (f : Fin 12 → Prg F PUnit) : seqN 12 f = (do f 0; f 1; f 2; f 3; f 4; f 5; f 6; f 7; f 8; f 9; f 10; f 11) := by
  simp only [seqN, bind_unit]; rfl

/-- Eight steps written out. -/
theorem seq8 (f : Fin 8 → Prg F PUnit) : seqN 8 f = (do f 0; f 1; f 2; f 3; f 4; f 5; f 6; f 7) := by
  simp only [seqN, bind_unit]; rfl

/-- The stages written out: the first four chunks go to the right only, the other eight both ways. -/
theorem seq_stage (d : Dev nD) : seqN (F := F) 12 (stage d) = (do
    core d 0; core d 1; core d 2; core d 3; core d 4; sendL d 0; core d 5; sendL d 1; core d 6; sendL d 2; core d 7; sendL d 3
    core d 8; sendL d 4; core d 9; sendL d 5; core d 10; sendL d 6; core d 11; sendL d 7) := by
  rw [seq12]
  have lo : ∀ k : Fin 4, stage (F := F) d ⟨k.val, by omega⟩ = core d ⟨k.val, by omega⟩ := fun k => by
    unfold stage; rw [dif_neg (by simp)]; exact Prog.bind_pure _
  have hi : ∀ k : Fin 8, stage (F := F) d (up k) = (do core d (up k); sendL d k) := fun k => by
    unfold stage; rw [dif_pos (by simp)]; rfl
  rw [show stage (F := F) d 0 = _ from lo 0, show stage (F := F) d 1 = _ from lo 1, show stage (F := F) d 2 = _ from lo 2, show stage (F := F) d 3 = _ from lo 3,
    show stage (F := F) d 4 = _ from hi 0, show stage (F := F) d 5 = _ from hi 1, show stage (F := F) d 6 = _ from hi 2, show stage (F := F) d 7 = _ from hi 3,
    show stage (F := F) d 8 = _ from hi 4, show stage (F := F) d 9 = _ from hi 5, show stage (F := F) d 10 = _ from hi 6, show stage (F := F) d 11 = _ from hi 7]
  simp only [bind_assoc]; rfl

/-- The waits for the ends of the sends written out. -/
theorem seq_waitS (d : Dev nD) : seqN (F := F) 12 (waitS d) = (do
    waitRS d 0; waitRS d 1; waitRS d 2; waitRS d 3; waitRS d 4; waitLS d 0; waitRS d 5; waitLS d 1; waitRS d 6; waitLS d 2; waitRS d 7; waitLS d 3
    waitRS d 8; waitLS d 4; waitRS d 9; waitLS d 5; waitRS d 10; waitLS d 6; waitRS d 11; waitLS d 7) := by
  rw [seq12]
  have lo : ∀ k : Fin 4, waitS (F := F) d ⟨k.val, by omega⟩ = waitRS d ⟨k.val, by omega⟩ := fun k => by
    unfold waitS; rw [dif_neg (by simp)]; exact Prog.bind_pure _
  have hi : ∀ k : Fin 8, waitS (F := F) d (up k) = (do waitRS d (up k); waitLS d k) := fun k => by
    unfold waitS; rw [dif_pos (by simp)]; rfl
  rw [show waitS (F := F) d 0 = _ from lo 0, show waitS (F := F) d 1 = _ from lo 1, show waitS (F := F) d 2 = _ from lo 2, show waitS (F := F) d 3 = _ from lo 3,
    show waitS (F := F) d 4 = _ from hi 0, show waitS (F := F) d 5 = _ from hi 1, show waitS (F := F) d 6 = _ from hi 2, show waitS (F := F) d 7 = _ from hi 3,
    show waitS (F := F) d 8 = _ from hi 4, show waitS (F := F) d 9 = _ from hi 5, show waitS (F := F) d 10 = _ from hi 6, show waitS (F := F) d 11 = _ from hi 7]
  simp only [bind_assoc]; rfl

set_option maxHeartbeats 4000000 in
/-- The kernel's body, on its staging buffers and scratch, is `bodyP`. -/
theorem body_eq : cc0_body (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6
    = bodyP := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, bind_assoc, pure_bind]
  simp only [bodyP, bodyD, bars, seq_stage, seq_waitS, seq12, seq8, bind_assoc, core, sendY, sendR, sendL, waitC, waitRR, waitLR, waitYS, waitRS, waitLS]
  rfl
end Cert.KernelIdeal.Work
-- ==== Proof.Oblig.lean ====
/-
# The body's obligation

What a device holds before and after its run of the body, for the launch rule: before, the shared facts, its places,
duties and credits, and its landing buffer; after, the landing buffer again and every semaphore of its own closed at zero,
with the result buffer holding `outAt`.
-/
module

public import proofs.«01_k».proof.Proof.Buffers
public import proofs.«01_k».proof.Proof.BodyEq
public import proofs.«01_k».proof.Proof.Gen.KernelIdeal.Points
public import proofs.«01_k».proof.Proof.Gen.KernelIdeal.Frame

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ) (c : Dev nD)

/-! ## Before and after -/

/-- What stays with a device: its places and the duties it pays. -/
def linear : sProp 𝕄 :=
  iprop(atPos ER (barCell c) 0 ∅ 0 ∗ places c 0 ∗ dutyTok ER (barCell (yn c)) 0 0 ∗ dutyTok ER (barCell (right c)) 0 1
    ∗ dutyTok ER (barCell (left c)) 0 2 ∗ duties c)

/-- All cells' invariants, and that all have reached round 0. -/
def records : sProp 𝕄 :=
  iprop((bigSep Finset.univ fun p : Dev nD × Option CK => cellInv ER (Rd m ρ) (K p) (kcell p))
    ∗ bigSep Finset.univ fun p : Dev nD × Option CK => reached ER (kcell p) 0)

instance records_persistent : BI.Persistent (records (F := F) m ρ K) := by unfold records; infer_instance

/-- What a device starts from, without its landing buffer. -/
def start : sProp 𝕄 :=
  iprop((∃ K, records m ρ K ∗ linear c) ∗ cred (tallyAt (barCell c) () 3) ∗ arrivals c ∗ levAts L lv)

/-- The landing buffer, at some contents. -/
def scr : sProp 𝕄 := iprop(∃ f, (((c : Thread nD τ).loc cc0_scratch0) ↦{fullShare} f))

/-- Every semaphore of the device at zero. -/
def zeros : sProp 𝕄 := bigSep Finset.univ fun j : CK => semVal (cell c j) 0

def Φ₀ : sProp 𝕄 := iprop(start m ρ c ∗ scr c)
def Φ₁ : sProp 𝕄 := iprop(scr c ∗ zeros c ∗ semVal (barCell c) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fin_N (t : Fin cfg0.N) : t = t0_0 := fin_N0 t

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Closing the cells -/

theorem close_cell (j : CK) : iprop(ctx m ρ K ∗ atPos ER (cell c j) (0 + 1) ∅ 0) ⊢ |={Set.univ}=> (semVal (cell c j) 0 : sProp 𝕄) := by
  iintro ⟨#Hctx, Hat⟩
  iapply (Rounds.cell_close ER (Rd m ρ) (Set.mem_univ (K (c, some j))) (fun h => h) (R := 0 + 1) (duties_later m ρ (cell c j)))
  isplitr; · iapply (ctx_inv m ρ K (c, some j)); iexact Hctx
  iexact Hat

theorem close_bar : iprop(ctx m ρ K ∗ atPos ER (barCell c) (0 + 1) ∅ 0) ⊢ |={Set.univ}=> (semVal (barCell c) 0 : sProp 𝕄) := by
  iintro ⟨#Hctx, Hat⟩
  iapply (Rounds.cell_close ER (Rd m ρ) (Set.mem_univ (K (c, none))) (fun h => h) (R := 0 + 1) (duties_later m ρ (barCell c)))
  isplitr; · iapply (ctx_inv m ρ K (c, none)); iexact Hctx
  iexact Hat

omit [FloatOps F] in
/-- A persistent fact serves every conjunct of a family. -/
theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All transfer cells of a device close at once. -/
theorem close_cells : iprop(ctx m ρ K ∗ places c (0 + 1)) ⊢ |={Set.univ}=> (zeros c : sProp 𝕄) := by
  unfold places zeros
  exact (big_with (R := ctx m ρ K) fun j _ => close_cell m ρ K c j).trans (bigSep_fupd _ _)

/-! ## The body -/

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost : sProp 𝕄 :=
  iprop(Φ₁ c ∗ (dats m ρ 0 c).owesAt () t0_0.succ ∗ stg c cc0_stg0_0 (xstg m ρ c) ∗ stg c cc0_stg1_0 (outAt m ρ c))

theorem ctx_intro : iprop(records m ρ K ∗ levAts L lv) ⊢ (ctx m ρ K : sProp 𝕄) := by
  unfold records ctx
  iintro ⟨⟨H1, H2⟩, H3⟩
  isplitl [H1]; · iexact H1
  isplitl [H2]; · iexact H2
  iexact H3

/-- The run from its parts: the shared facts under the names `K`, the device's own, and whole buffers. -/
def wholePre (g : (cc0_stg1_0 : Ref sig .tc).ty.Contents (Elt F)) : sProp 𝕄 :=
  iprop(linear c ∗ cred (tallyAt (barCell c) () 3) ∗ arrivals c ∗ scr c
    ∗ (((c : Thread nD τ).loc cc0_stg0_0) ↦{fullShare} xstg m ρ c) ∗ (((c : Thread nD τ).loc cc0_stg1_0) ↦{fullShare} g))
def wholePost : sProp 𝕄 :=
  iprop(Φ₁ c ∗ (((c : Thread nD τ).loc cc0_stg0_0) ↦{fullShare} xstg m ρ c) ∗ (((c : Thread nD τ).loc cc0_stg1_0) ↦{fullShare} outAt m ρ c))

theorem pre_split (g : (cc0_stg1_0 : Ref sig .tc).ty.Contents (Elt F)) : (wholePre m ρ c g : sProp 𝕄) ⊢ iprop(runPre m ρ c ∗ xRest m ρ c) := by
  unfold wholePre runPre linear scr barsPre
  rw [x_split]
  iintro ⟨⟨HatB, Hpl, Ht0, Ht1, Ht2, Hdu⟩, HcB, Har, ⟨%f, Hs⟩, ⟨⟨HxL, HxR⟩, Hx⟩, Ho⟩
  ihave Hs := (comm_split c f) $$ Hs
  ihave Ho := (o_split c g) $$ Ho
  icases Ho with ⟨Ho, HL, HR⟩
  isplitr [Hx]
  · isplitl [HatB Ht0 Ht1 Ht2 HcB Hs HL HR]
    · isplitl [HatB]; · iexact HatB
      isplitl [HcB]; · iexact HcB
      isplitl [Ht0]; · iexact Ht0
      isplitl [Ht1]; · iexact Ht1
      isplitl [Ht2]; · iexact Ht2
      isplitl [Hs]; · iexact Hs
      isplitl [HR]; · iexact HR
      iexact HL
    isplitl [HxL]; · iexact HxL
    isplitl [HxR]; · iexact HxR
    isplitl [Ho]; · iexact Ho
    isplitl [Hpl]; · iexact Hpl
    isplitl [Hdu]; · iexact Hdu
    iexact Har
  iexact Hx

theorem post_join : iprop(ctx m ρ K ∗ runPost m ρ c ∗ xRest m ρ c) ⊢ |={Set.univ}=> (wholePost m ρ c : sProp 𝕄) := by
  unfold wholePost runPost Φ₁ scr
  rw [x_split, ← o_join]
  iintro ⟨#Hctx, ⟨HatB, Hpl, HxL, HxR, Hs, Ho, HoL, HoR⟩, Hx⟩
  ihave Hs := (comm_join m c) $$ Hs
  imod (close_cells m ρ K c) $$ [Hpl] with Hz
  · isplitr; · iexact Hctx
    iexact Hpl
  imod (close_bar m ρ K c) $$ [HatB] with HzB
  · isplitr; · iexact Hctx
    iexact HatB
  imodintro
  isplitl [Hs Hz HzB]
  · isplitl [Hs]; · iexact Hs
    isplitl [Hz]; · iexact Hz
    iexact HzB
  isplitl [HxL HxR Hx]
  · isplitl [HxL HxR]
    · isplitl [HxL]; · iexact HxL
      iexact HxR
    iexact Hx
  isplitl [Ho]; · iexact Ho
  isplitl [HoL]; · iexact HoL
  iexact HoR

/-- The run, on whole buffers. -/
theorem wp_whole (g : (cc0_stg1_0 : Ref sig .tc).ty.Contents (Elt F)) :
    iprop(ctx m ρ K ∗ wholePre m ρ c g ∗ ow c (O₀ c)) ⊢ WP c (bodyP (F := F)) (fun _ => iprop(wholePost m ρ c ∗ ow c 0)) := by
  have h := wp_body m ρ K c
  unfold bodyP
  unfold WP at h ⊢
  simp only [Prog.lift, Prog.bind_op, Prog.bind_ret, wp_deviceId]
  iintro ⟨#Hctx, Hpre, HO⟩
  ihave Hpre := (pre_split m ρ c g) $$ Hpre
  icases Hpre with ⟨Hpre, Hx⟩
  iapply wp_fupd
  iapply (wp_wand frame (wpE (defs₀ (F := F)) 𝒱₀ (c : Thread nD τ) none) Set.univ) $$ [Hpre HO]
  · iapply h
    isplitr; · iexact Hctx
    isplitl [Hpre]; · iexact Hpre
    iexact HO
  iintro %a ⟨Hpost, HO⟩
  imod (post_join m ρ K c) $$ [Hpost Hx] with Hpost
  · isplitr; · iexact Hctx
    isplitl [Hpost]; · iexact Hpost
    iexact Hx
  imodintro
  isplitl [Hpost]; · iexact Hpost
  iexact HO

theorem sound_body (Kt : PUnit → sProp 𝕄) :
    iprop(bodyPre m ρ c ∗ (bodyPost m ρ c -∗ Kt ⟨⟩))
      ⊢ wp frame (wpE (defs₀ (F := F)) 𝒱₀ (c : Thread nD τ) none) Set.univ (bodyP (F := F)) Kt := by
  have h := fun K g => wp_whole m ρ K c g
  unfold WP at h
  unfold bodyPre Φ₀ start
  iintro ⟨⟨⟨⟨⟨%K, Hrec, Hlin⟩, HcB, Har, Hlev⟩, Hs⟩, Ho, ⟨%d0, %g0, %hg0, Hx⟩, ⟨%d1, %g1, %hg1, Hout⟩⟩, Hk⟩
  have hx : g0 = xstg m ρ c := by rw [hg0]; unfold Pipeline.Dat.before; rw [if_pos (fetch0_0 t0_0)]; rfl
  subst hx
  unfold Pipeline.Dat.owesAt Pipeline.owesWithin
  icases Ho with ⟨%W, %hW, HO⟩
  ihave Hctx := (ctx_intro m ρ K) $$ [Hrec Hlev]
  · isplitl [Hrec] <;> iassumption
  iapply (wp_wand frame (wpE (defs₀ (F := F)) 𝒱₀ (c : Thread nD τ) none) Set.univ) $$ [Hctx Hlin HcB Har Hs Hx Hout HO]
  · iapply (h K g1)
    isplitl [Hctx]; · iexact Hctx
    isplitr [HO]
    · unfold wholePre
      isplitl [Hlin]; · iexact Hlin
      isplitl [HcB]; · iexact HcB
      isplitl [Har]; · iexact Har
      isplitl [Hs]; · iexact Hs
      isplitl [Hx]; · iexact Hx
      iexact Hout
    unfold ow; iexists W; iexact HO
  iintro %a ⟨Hpost, HO⟩
  iapply Hk
  unfold bodyPost wholePost ow Pipeline.Dat.owesAt Pipeline.owesWithin
  icases Hpost with ⟨HΦ, Hx, Ho⟩
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-- The kernel the launch runs is `bodyP`. -/
theorem defs_body : defs₀ (F := F) Proc.tc 0 (t0_0, cfg0.slots t0_0) = bodyP (F := F) :=
  (show defs₀ (F := F) Proc.tc 0 (t0_0, cfg0.slots t0_0) = bodyAt0 (F := F) t0_0 from rfl).trans
    ((show bodyAt0 (F := F) t0_0 = cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6 from rfl).trans body_eq)

theorem Φ_start : (dats m ρ 0 c).Φ t0_0.castSucc = Φ₀ m ρ c := rfl
theorem Φ_end : (dats m ρ 0 c).Φ t0_0.succ = Φ₁ c := rfl
theorem after_x : (dats m ρ 0 c).after (0 : Fin 2) t0_0 = xstg m ρ c := rfl
theorem after_o : (dats m ρ 0 c).after (1 : Fin 2) t0_0 = outAt m ρ c := rfl

set_option maxRecDepth 4000 in
/-- The launch rule's obligation on the body, on device `c`. -/
theorem body_obligation : Pipeline.BodyObligation (dats (F := F) m ρ 0 c) (defs₀ (F := F)) 𝒱₀ () Set.univ := fun t => by
  have h := sound_body m ρ c (fun _ => bodyPost m ρ c)
  unfold bodyPost at h
  rw [fin_N t, bigSep_W, bigSep_W]
  simp only [owns_whole_eq]
  rw [Φ_start, Φ_end]
  simp only [after_x, after_o]
  generalize hp : defs₀ (F := F) Proc.tc 0 (t0_0, cfg0.slots t0_0) = p
  have hp' : p = bodyP := hp.symm.trans defs_body
  clear hp
  subst hp'
  show bodyPre m ρ c ⊢ _
  iintro H
  iapply h
  isplitl [H]; · iexact H
  iintro H; iexact H

end Cert.KernelIdeal.Work
-- ==== Proof.Launch.lean ====
/-
# The launch

Every device's semaphores become cells of one schedule, under one update over all devices; each device gets its places and
the duties it pays on its neighbours' cells, and the credits of what its neighbours owe it. Then every execution of the
kernel on the sixteen devices terminates, with the argument as it was, the result at `outAt` and all semaphores at zero.
-/
module

public import proofs.«01_k».proof.Proof.Oblig
public import Idealize.ShloMosaic.Lib.Pipeline.CollectiveSegs

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ) (c : Dev nD)

/-! ## Cells and duties -/

/-- The kernel's own semaphores. -/
abbrev osem (j : CK) : SemLoc sig := .dma (sem j)

set_option synthInstance.maxHeartbeats 400000 in
theorem ownSemFacts : Pipeline.OwnSemFacts cfg0.spec osem where
  isScoped := by decide +kernel
  inj := fun j j' h => sem_inj (by injection h)
  disj := by decide +kernel

theorem share_eq (w : Fin cfg0.W) : (dats m ρ 0 c).share w = fullShare := by unfold Pipeline.Dat.share; split <;> rfl

theorem kcell_injective : Function.Injective (kcell : Dev nD × Option CK → GSem nD τ sig) := by
  rintro ⟨c, k⟩ ⟨c', k'⟩ h
  have h1 : c = c' := by
    have e : ∀ (d : Dev nD) (k : Option CK), (kcell (d, k)).1.1 = d := fun d k => by cases k <;> rfl
    rw [← e c k, h, e]
  subst h1
  cases k with
  | none => cases k' with
    | none => rfl
    | some j' => exact absurd (congrArg Prod.snd h) (fun h => by cases h)
  | some j => cases k' with
    | none => exact absurd (congrArg Prod.snd h) (fun h => by cases h)
    | some j' =>
      have h2 : (SemLoc.dma (sem j) : SemLoc sig) = .dma (sem j') := congrArg Prod.snd h
      have h3 : sem j = sem j' := by injection h2
      rw [sem_inj h3]
/-- All cells of all devices. -/
def cells : Finset (GSem nD τ sig) := Finset.univ.map ⟨kcell, kcell_injective⟩

/-- The duties of a device's own cells: three at its barrier, one at each transfer cell. -/
abbrev tokOf (p : Dev nD × (Fin 3 ⊕ CK)) : GSem nD τ sig × ℕ × Fin 3 :=
  match p.2 with | .inl d => (barCell p.1, 0, d) | .inr j => (cell p.1 j, 0, 0)
theorem tokOf_injective : Function.Injective (tokOf : Dev nD × (Fin 3 ⊕ CK) → GSem nD τ sig × ℕ × Fin 3) := by
  rintro ⟨c, k⟩ ⟨c', k'⟩ h
  cases k with
  | inl d => cases k' with
    | inl d' =>
      have h1 := kcell_injective (a₁ := (c, none)) (a₂ := (c', none)) (congrArg Prod.fst h)
      have h2 : d = d' := congrArg (fun x : GSem nD τ sig × ℕ × Fin 3 => x.2.2) h
      have h3 : c = c' := congrArg Prod.fst h1
      rw [h2, h3]
    | inr j' => exact absurd (congrArg (fun x : GSem nD τ sig × ℕ × Fin 3 => x.1.2) h) (fun h => by cases h)
  | inr j => cases k' with
    | inl d' => exact absurd (congrArg (fun x : GSem nD τ sig × ℕ × Fin 3 => x.1.2) h) (fun h => by cases h)
    | inr j' =>
      have h1 := kcell_injective (a₁ := (c, some j)) (a₂ := (c', some j')) (congrArg Prod.fst h)
      have h2 : some j = some j' := congrArg Prod.snd h1
      have h3 : j = j' := Option.some.inj h2
      have h4 : c = c' := congrArg Prod.fst h1
      rw [h3, h4]
def allToks : Finset (GSem nD τ sig × ℕ × Fin 3) := Finset.univ.map ⟨tokOf, tokOf_injective⟩

/-- The ghost state at launch: the staging's, and the schedule's. -/
def u₀ : UU :=
  (initOf (Pipeline.cells cfgs cellOf_inj) (Pipeline.launchToks cfgs cellOf_inj), initOf cells allToks)

/-- The duties of device `c`'s own cells. -/
def toks : sProp 𝕄 :=
  iprop((bigSep Finset.univ fun d : Fin 3 => dutyTok ER (barCell c) 0 d) ∗ bigSep Finset.univ fun j : CK => dutyTok ER (cell c j) 0 0)

/-- What the launch deals device `c`. -/
def G : sProp 𝕄 :=
  iprop((bigSep Finset.univ fun k : Option CK => roundState ER (Rd m ρ) (kcell (c, k)) 0)
    ∗ (bigSep Finset.univ fun k : Option CK => iprop(atPos ER (kcell (c, k)) 0 ∅ 0 ∗ reached ER (kcell (c, k)) 0)) ∗ toks c)

/-- What the common step makes of it. -/
def G' : sProp 𝕄 := iprop(∃ K, records m ρ K ∗ linear c)

theorem fund : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun k : Option CK => Φ (kcell (c, k)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m ρ) cells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- One conjunct per optional name: the one without, and the named. -/
theorem big_option (Φ : Option CK → sProp 𝕄) : (bigSep Finset.univ Φ : sProp 𝕄) = iprop(Φ none ∗ bigSep Finset.univ fun j => Φ (some j)) := by
  rw [bigSep_univ_equiv (Equiv.optionEquivSumPUnit.{0, 0} CK).symm Φ, bigSep_univ_sum, show (Finset.univ : Finset PUnit.{1}) = {⟨⟩} from rfl, bigSep_singleton]
  exact BI.Entails.antisymm BI.sep_comm BI.sep_comm

omit [FloatOps F] in
theorem ownSems0_eq : (Pipeline.ownSems0 (Ix := Unit) (Name := ℕ) (U := UU) (Lvl := ℕ) (Val := Elt F) (τ := τ) osem c : sProp 𝕄) = zeros c := rfl
omit [FloatOps F] in
/-- The barrier semaphore is the launch's one unscoped semaphore. -/
theorem unscopedSems0_eq : (unscopedSems0 c : sProp 𝕄) = semVal (barCell c) 0 := by
  unfold unscopedSems0; rw [bigSep_eq_bigSepL_of_eq [SemLoc.reg barS] (by decide +kernel) (by decide)]; rfl

omit [FloatOps F] in
theorem sems0_eq :
    iprop(Pipeline.ownSems0 (Ix := Unit) (Name := ℕ) (U := UU) (Lvl := ℕ) (Val := Elt F) (τ := τ) osem c ∗ unscopedSems0 c)
      ⊢ (bigSep Finset.univ fun k : Option CK => semVal (kcell (c, k)) 0 : sProp 𝕄) := by
  rw [ownSems0_eq, unscopedSems0_eq, big_option]
  unfold zeros
  iintro ⟨HS, HB⟩
  isplitl [HB]; · iexact HB
  iexact HS

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option CK => semVal (kcell (c, k)) 0) ∗ bigSep Finset.univ fun k : Option CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties around -/

/-- The duties device `c` pays. -/
def payToks : sProp 𝕄 :=
  iprop(dutyTok ER (barCell (yn c)) 0 0 ∗ dutyTok ER (barCell (right c)) 0 1 ∗ dutyTok ER (barCell (left c)) 0 2 ∗ duties c)

omit [FloatOps F] in
theorem big_three (Φ : Fin 3 → sProp 𝕄) : (bigSep Finset.univ Φ : sProp 𝕄) = iprop(Φ 0 ∗ Φ 1 ∗ Φ 2) :=
  bigSep_univ_eq_bigSepL [0, 1, 2] (by decide) (by decide) Φ

omit [FloatOps F] in
theorem around {n : ℕ} (e : Dev nD ≃ Dev nD) (Φ : Dev nD → Fin n → sProp 𝕄) :
    (bigSep Finset.univ fun c : Dev nD => bigSep Finset.univ fun k => Φ c k : sProp 𝕄) = bigSep Finset.univ fun c : Dev nD => bigSep Finset.univ fun k => Φ (e c) k :=
  bigSep_univ_equiv e fun c => bigSep Finset.univ fun k => Φ c k

omit [FloatOps F] in
theorem toks_around : (bigSep Finset.univ fun c : Dev nD => (toks c : sProp 𝕄)) ⊢ bigSep Finset.univ fun c : Dev nD => payToks c := by
  unfold toks payToks duties
  simp only [big_CK, big_three]
  simp only [bigSep_sep']
  rw [bigSep_univ_equiv ynE (fun c : Dev nD => (dutyTok ER (barCell c) 0 0 : sProp 𝕄)),
    bigSep_univ_equiv rightE (fun c : Dev nD => (dutyTok ER (barCell c) 0 1 : sProp 𝕄)),
    bigSep_univ_equiv rightE.symm (fun c : Dev nD => (dutyTok ER (barCell c) 0 2 : sProp 𝕄)),
    around ynE (fun (c : Dev nD) (k : Fin 12) => (dutyTok ER (cell c (yr k)) 0 0 : sProp 𝕄)),
    around rightE (fun (c : Dev nD) (k : Fin 12) => (dutyTok ER (cell c (rr k)) 0 0 : sProp 𝕄)),
    around rightE.symm (fun (c : Dev nD) (k : Fin 8) => (dutyTok ER (cell c (lr k)) 0 0 : sProp 𝕄))]
  iintro ⟨⟨H1, H2, H3⟩, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem ghost_intro (K : Dev nD × Option CK → ℕ) (c : Dev nD) : iprop(records m ρ K ∗ linear c) ⊢ G' m ρ c := by
  unfold G'
  iintro H
  iexists K
  iexact H

omit [FloatOps F] in
theorem linear_eq : (iprop((bigSep Finset.univ fun k : Option CK => atPos ER (kcell (c, k)) 0 ∅ 0) ∗ payToks c) : sProp 𝕄) ⊢ linear c := by
  rw [big_option]
  unfold linear payToks places
  iintro ⟨⟨Ha, Hp⟩, H⟩
  isplitl [Ha]; · iexact Ha
  isplitl [Hp]; · iexact Hp
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option CK => iprop(∃ κ : ℕ, cellInv ER (Rd m ρ) κ (kcell ck))),
    bigSep_congr (s := Finset.univ) (fun (c : Dev nD) _ => bigSep_sep' Finset.univ (fun k : Option CK => (atPos ER (kcell (c, k)) 0 ∅ 0 : sProp 𝕄)) (fun k => reached ER (kcell (c, k)) 0)),
    bigSep_sep', ← bigSep_univ_prod (fun ck : Dev nD × Option CK => (reached ER (kcell ck) 0 : sProp 𝕄))]
  iintro ⟨HI, ⟨Hat, #HR⟩, Htok⟩
  ihave HK := (BI.bigSep_exists_pi Finset.univ (fun (ck : Dev nD × Option CK) (κ : ℕ) => (cellInv ER (Rd m ρ) κ (kcell ck) : sProp 𝕄))) $$ HI
  icases HK with ⟨%K, #HI⟩
  ihave Htk := (toks_around (F := F)) $$ Htok
  iapply (big_with (R := records m ρ K) fun c _ => ghost_intro m ρ K c)
  isplitr
  · unfold records; isplitl; · iexact HI
    iexact HR
  · iapply ((Entails.of_eq (bigSep_sep' Finset.univ (fun c : Dev nD => bigSep Finset.univ fun k : Option CK => (atPos ER (kcell (c, k)) 0 ∅ 0 : sProp 𝕄)) payToks).symm).trans
      (bigSep_mono fun c _ => linear_eq c))
    isplitl [Hat]; · iexact Hat
    iexact Htk

/-- The common step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

omit [FloatOps F] in
theorem cred_around {n : ℕ} (e : Dev nD ≃ Dev nD) (j : Fin n → CK) :
    (Pipeline.launchCred (fun d => ∑ k ∈ finFrom n 0, tallyAt (cell (e d) (j k)) () N) c : sProp 𝕄)
      ⊢ bigSep Finset.univ fun k => cred (tallyAt (cell c (j k)) () N) := by
  rw [Pipeline.launchCred_sum, bigSep_finFrom_zero]
  exact bigSep_mono fun k _ => Pipeline.launchCred_tallyAt (.dma (sem (j k))) e e.symm e.apply_symm_apply e.symm_apply_apply () N c

omit [FloatOps F] in
theorem cred_bar (e : Dev nD ≃ Dev nD) :
    (Pipeline.launchCred (fun d => tallyAt (barCell (e d)) () 1) c : sProp 𝕄) ⊢ cred (tallyAt (barCell c) () 1) :=
  Pipeline.launchCred_tallyAt (.reg barS) e e.symm e.apply_symm_apply e.symm_apply_apply () 1 c

omit [FloatOps F] in
theorem cred_three : iprop(cred (tallyAt (barCell c) () 1) ∗ cred (tallyAt (barCell c) () 1) ∗ cred (tallyAt (barCell c) () 1)) ⊢ (cred (tallyAt (barCell c) () 3) : sProp 𝕄) := by
  have e : (tallyAt (barCell c) () 3 : CellTallies nD τ sig Unit) = tallyAt (barCell c) () 1 + (tallyAt (barCell c) () 1 + tallyAt (barCell c) () 1) := by
    rw [tallyAt_add, tallyAt_add]
  rw [e]
  iintro ⟨H1, H2, H3⟩
  iapply (cred_add _ _).2
  isplitl [H1]; · iexact H1
  iapply (cred_add _ _).2
  isplitl [H2]; · iexact H2
  iexact H3

omit [FloatOps F] in
theorem creds : (Pipeline.launchCred O₀ c : sProp 𝕄) ⊢ iprop(cred (tallyAt (barCell c) () 3) ∗ arrivals c) := by
  have e : (Pipeline.launchCred O₀ c : sProp 𝕄) = iprop(((((Pipeline.launchCred (fun d => owR d 0) c ∗ Pipeline.launchCred (fun d => owL d 0) c) ∗ Pipeline.launchCred (fun d => owY d 0) c)
      ∗ Pipeline.launchCred (fun d => tallyAt (barCell (left d)) () 1) c) ∗ Pipeline.launchCred (fun d => tallyAt (barCell (right d)) () 1) c)
      ∗ Pipeline.launchCred (fun d => tallyAt (barCell (yn d)) () 1) c) := by
    rw [← Pipeline.launchCred_add, ← Pipeline.launchCred_add, ← Pipeline.launchCred_add, ← Pipeline.launchCred_add, ← Pipeline.launchCred_add]
    rfl
  rw [e]
  unfold arrivals
  iintro ⟨⟨⟨⟨⟨HR, HL⟩, HY⟩, H1⟩, H2⟩, H3⟩
  isplitl [H1 H2 H3]
  · iapply cred_three c
    isplitl [H1]; · iapply (cred_bar c rightE.symm); iexact H1
    isplitl [H2]; · iapply (cred_bar c rightE); iexact H2
    iapply (cred_bar c ynE); iexact H3
  isplitl [HY]; · iapply (cred_around c ynE (fun k : Fin 12 => yr k)); iexact HY
  isplitl [HR]; · iapply (cred_around c rightE (fun k : Fin 12 => rr k)); iexact HR
  iapply (cred_around c rightE.symm (fun k : Fin 8 => lr k)); iexact HL

/-! ## The side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨⟨%f, Hr⟩, Hz, HzB⟩
  isplitl [HzB]; · iexact HzB
  isplitl [Hz]; · iexact Hz
  iexists f; iexact Hr

/-- The semaphores of the staging stand at the bottom level. -/
theorem lv_stage (w : Fin cfg0.W) (s) : lv ((c : Thread nD τ), .dma ((cfg0.win w).sem s)) () ≤ 0 := by
  have h : decode ((cfg0.win w).sem s) = none := by
    unfold decode
    have hn : ¬ ∃ j, sem j = (cfg0.win w).sem s := fun ⟨j, hj⟩ => ownSemFacts.disj j w s (congrArg SemLoc.dma hj)
    exact dif_neg hn
  show lvQ (decode ((cfg0.win w).sem s)) ≤ 0
  rw [h]; exact le_rfl

theorem waits : (levAts L lv : sProp 𝕄) ⊢ Pipeline.cellsWaits cfgs (dats m ρ) () 0 c :=
  Pipeline.cellsWaits_intro cfgs (dats m ρ) () 0 c fun w s t =>
    mayWait c _ (lv_stage c w s) (by
      rcases t with ⟨_ | _, ht⟩
      · exact above_O₀ c
      · exact above_zero 0)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of sixteen devices, for any float values and from any memory with zero counters, every weakly fair execution
    of the kernel terminates, and every final state has each device's arrays at the computed contents and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x : finalA m ρ c (0 : Fin 2) = (s₀ m ρ).mem (win0_0.arr.view.loc (c : Thread nD τ)) :=
  (dats (F := F) m ρ 0 c).arrAt_in (0 : Fin 2) rfl _

end Cert.KernelIdeal.Work
-- ==== Proof.RefSide.lean ====
/-
  The reference's run: on its one device it leaves in its result the sum, over the two halves of its argument, of
  their rows (`run_main`), and at the ideal instance that sum is, at each index, the element of the upper half plus the
  element of the lower half (`refOut_apply`).
-/
module

public import Idealize.ShloMosaic.Lib.StableHlo.Run
public import Idealize.ShloMosaic.Lib.Pointwise
public import proofs.«01_k».proof.Proof.Gen.ReferenceIdeal

@[expose] public section

noncomputable section

namespace Cert.ReferenceIdeal.Work

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its argument: the two halves of the argument, added. -/
abbrev refOut (x : FVec F S1024x512 .f32) : FVec F S512x512 .f32 :=
  Host.reduceAdd (shapeCast S2x512x512 x shapeCasts_S1024x512_S2x512x512) (constant S_ .f32 0x00000000#32) reducesTo_S2x512x512_S512x512_d0 h_S_

/-- The reference's operations, in order. -/
abbrev ops : List (HloOp τ sig (Elt F)) :=
  [ reshape main_arg0 main_v0 (rfl : (.f32 : EltTy) = .f32) shapeCasts_S1024x512_S2x512x512,
    nullary main_cst (constant S_ .f32 0x00000000#32),
    binary main_v0 main_cst main_v1 ((fun x v => Host.reduceAdd x v reducesTo_S2x512x512_S512x512_d0 h_S_) : (⟨S2x512x512, .f32⟩ : BufTy).Contents (Elt F) → (⟨S_, .f32⟩ : BufTy).Contents (Elt F) → (⟨S512x512, .f32⟩ : BufTy).Contents (Elt F)) ]

/-- The reference is that straight line. -/
theorem main_eq (c : Dev nD) : main (F := F) c = seq ops := rfl

/-- After the operations the result holds `refOut` of the argument. -/
theorem out_eq (V : Valuation τ sig (Elt F)) : after ops V (main_v1 : DevRef τ sig) = refOut (V (main_arg0 : DevRef τ sig)) := by
  after_results
  rfl

/-- No operation writes the argument. -/
theorem arg0_eq (V : Valuation τ sig (Elt F)) : after ops V (main_arg0 : DevRef τ sig) = V (main_arg0 : DevRef τ sig) := by
  after_results

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

/-- Every operation touches only buffers the tensor core names. -/
theorem ops_sub : (ops : List (HloOp τ sig (Elt F))).Forall fun op => op.bufs ⊆ tcRefs τ sig :=
  ⟨reshape_bufs_sub .., nullary_bufs_sub .., binary_bufs_sub ..⟩

/-- Every fair run of the reference ends, with its result holding `refOut` of its argument and its argument unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v1) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v1).trans (out_eq _), (h c main_arg0).trans (arg0_eq _)⟩)
    (run_seq scopedRefs_eq scopedSems_eq defs main (fun _ => ops) main_eq (fun _ => ops_sub) m ρ)

/-- Index `j` of half `b` of the argument, as an index of the whole argument. -/
def half (b : Fin 2) (j : S512x512.Idx) : S1024x512.Idx :=
  Shape.pair ⟨b.val * 512 + (j (0 : Fin 2)).val, by
    have h : (j (0 : Fin 2)).val < 512 := (j (0 : Fin 2)).isLt
    show _ < 1024
    omega⟩ (j (1 : Fin 2))

/-- At the ideal instance the reference's result is, at each index, the sum of the two halves' elements there. -/
theorem refOut_apply (x : FVec Ideal S1024x512 .f32) (j : S512x512.Idx) :
    refOut x j = ((x (half 0 j) : EReal) + x (half 1 j) : EReal) := by
  simp only [refOut, pointwise]
  rw [Fin.sum_univ_two, zero_add]
  exact congrArg₂ _ (congrArg x (funext fun a => by fin_cases a <;> rfl)) (congrArg x (funext fun a => by fin_cases a <;> rfl))

end Cert.ReferenceIdeal.Work

end
-- ==== Proof.Values.lean ====
/-
  The values: what the kernel's result array holds at the end of the run, and, at the ideal instance, that it is the
  reference's sum of the two halves of the whole input, on every device.
-/
module

public import proofs.«01_k».proof.Proof.Launch
public import proofs.«01_k».proof.Proof.RefSide

@[expose] public section

set_option synthInstance.maxSize 4096

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option CK → ℕ) (c : Dev nD)

/-- The result array, read back through its one window, is what the body left in the staging buffer. -/
theorem finalA_o : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The result window's one block is the whole result array: reading it reads the array. -/
theorem read_o (f : main_v1.ty.Contents (Elt F)) : (win0_1.blk (0 : Fin 1)).view.read (Elt F) f = f :=
  Memref.read_access_unit_zero (Elt F) main_v1
    (show (fun a => (win0_1.index (0 : Fin 1)) a * main_v1.ty.shape.size a) = fun _ => 0 from funext fun a => by fin_cases a <;> decide)
    (fun a => by fin_cases a <;> decide) f

/-- The input window's one block is the whole input array: reading it reads the array. -/
theorem read_x (f : main_arg0.ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from funext fun a => by fin_cases a <;> decide)
    (fun a => by fin_cases a <;> decide) f

/-- Device `c`'s result array ends holding its result. -/
theorem finalA_out : finalA m ρ c (1 : Fin 2) = outAt m ρ c := (read_o _).symm.trans (finalA_o m ρ c)

/-- The block of the input a device stages is its input array. -/
theorem xstg_eq : xstg m ρ c = m ((c : Thread nD τ).loc main_arg0) := read_x _

/-- A device's coordinate on the mesh axis the input is cut along. -/
def yc (c : Dev nD) : Fin 2 := ⟨c.val / 4 % 2, by omega⟩

/-- A device's partner has the other coordinate. -/
theorem yc_yn : ∀ c : Dev nD, (yc c = 0 ∧ yc (yn c) = 1) ∨ (yc c = 1 ∧ yc (yn c) = 0) := by decide

/-- The block of the whole input that device `c` holds is the half its coordinate names. -/
theorem block_half {α : Type} (x : Cert.ReferenceIdeal.S1024x512.Idx → α) (i : S512x512.Idx) :
    Layout.blockN ⟨2, ![512, 512]⟩ ⟨2, ![1024, 512]⟩ (Layout.meshBlock [2, 2, 4] ![[1], []] c) x (by decide) i
      = x (Cert.ReferenceIdeal.Work.half (yc c) i) := by
  rw [Layout.blockN_apply]
  refine congrArg x (funext fun a => Fin.ext ?_)
  rw [Layout.TilesN.idx_val]
  fin_cases a
  · show (c.val / 4 % 2 * 1 + 0) * 512 + (i 0).val = c.val / 4 % 2 * 512 + (i 0).val
    omega
  · show 0 * 512 + (i 1).val = (i 1).val
    omega

/-- At the ideal instance, when each device's input is its half of `x`, every device's result is the sum of the two halves. -/
theorem outAt_eq (m : (ℓ : Loc nD τ sig) → Buf (Elt Ideal) ℓ) (x : FVec Ideal Cert.ReferenceIdeal.S1024x512 .f32)
    (hx : ∀ c : Dev nD, m ((c : Thread nD τ).loc main_arg0)
      = Layout.blockN ⟨2, ![512, 512]⟩ ⟨2, ![1024, 512]⟩ (Layout.meshBlock [2, 2, 4] ![[1], []] c) x (by decide)) :
    outAt m ρ c = Cert.ReferenceIdeal.Work.refOut x := by
  funext i
  rw [Cert.ReferenceIdeal.Work.refOut_apply]
  unfold outAt
  generalize side c _ = d
  have e : ∀ d : Dev nD, xstg m ρ d i = x (Cert.ReferenceIdeal.Work.half (yc d) i) := fun d => by
    rw [xstg_eq, hx, block_half]
  refine (congrArg₂ (fun a b : EReal => a + b) (e d) (e (yn d))).trans ?_
  rcases yc_yn d with ⟨h, h'⟩ | ⟨h, h'⟩
  · rw [h, h']
  · rw [h, h']
    exact add_comm (G := EReal) _ _

end Cert.KernelIdeal.Work
-- ==== Proof.lean ====
/-
  The certificate's claims, assembled: each program's run ends with its inputs unchanged and its semaphores at zero, and
  at the ideal instance the kernel leaves on every device the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import proofs.«01_k».proof.Proof.Kernel.Launch
public import Idealize.ShloMosaic.Adequacy
public import Idealize.ShloMosaic.Init

@[expose] public section

noncomputable section

namespace Cert.Proof

open Idealize.ShloMosaic Idealize.ShloMosaic.TcCoe Idealize.SL.Sem

/-- The kernel at bits: every run ends, its input unchanged on every device and every semaphore at zero. -/
theorem frame_kernel : Cert.quiescent_Kernel := fun m ρ _ =>
  (θ_run _ _ _).mono (fun _ h => ⟨fun c => (h.1 c (0 : Fin 2)).trans (Cert.Kernel.Work.finalA_x m ρ c), h.2⟩)
    (Cert.Kernel.Work.run_main (F := Bits) m ρ)

/-- The kernel at the ideal instance: every run ends, its input unchanged on every device and every semaphore at zero. -/
theorem frame_kernelIdeal : Cert.quiescent_KernelIdeal := fun m ρ _ =>
  (θ_run _ _ _).mono (fun _ h => ⟨fun c => (h.1 c (0 : Fin 2)).trans (Cert.KernelIdeal.Work.finalA_x m ρ c), h.2⟩)
    (Cert.KernelIdeal.Work.run_main (F := Ideal) m ρ)

/-- The reference: every run ends, its input unchanged; it has no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Work.run_main (F := Ideal) m ρ)

/-- When each device starts with its half of the reference's input, every device's result is the reference's result. -/
theorem algebraic : Cert.algebraic_KernelIdeal_ReferenceIdeal := fun m ρ m' ρ' _ hagree =>
  ⟨Cert.ReferenceIdeal.Work.refOut (F := Ideal)
      (m' (((0 : Dev Cert.ReferenceIdeal.nD).tc : Thread _ Cert.ReferenceIdeal.τ).loc Cert.ReferenceIdeal.main_arg0)),
    (θ_run _ _ _).mono (fun _ h c =>
        ⟨((h.1 c (1 : Fin 2)).trans (Cert.KernelIdeal.Work.finalA_out m ρ c)).trans (Cert.KernelIdeal.Work.outAt_eq ρ c m _ hagree),
          (h.1 c (0 : Fin 2)).trans (Cert.KernelIdeal.Work.finalA_x m ρ c)⟩)
      (Cert.KernelIdeal.Work.run_main (F := Ideal) m ρ),
    (θ_run _ _ _).mono (fun _ h => h 0) (Cert.ReferenceIdeal.Work.run_main (F := Ideal) m' ρ')⟩

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
